-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![8, 512, 768]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = Layout.block ⟨3, ![2, 512, 768]⟩ ⟨3, ![8, 512, 768]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S8x512x32x64 : Shape := ⟨4, ![8, 512, 32, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S8x512x32x64 : S_.BroadcastsInDim S8x512x32x64 (![] : Fin 0 → Fin S8x512x32x64.rank)

variable [Facts]

def fn {F : FTy → Type} [FloatOps F] (main_arg0 : FVec F S2x512x768 .f32) (main_arg1 : FVec F S768x512 .f32) (main_arg2 : FVec F S8x512x32x64 .f32) (main_arg3 : FVec F S8x512x32x64 .f32) (main_arg4 : FVec F S512x768 .f32) : IVec S2x512x768 1 × IVec S768x512 1 × IVec S8x512x32x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S8x512x32x64 .f32 := Host.absf main_arg2
  let main_cst_1 : FVec F S_ .f32 := constant S_ .f32 0x7F800000#32
  let main_v7 : FVec F S8x512x32x64 .f32 := broadcastInDim S8x512x32x64 ![] bcast_S_S8x512x32x64 main_cst_1
  let main_v8 : IVec S8x512x32x64 1 := cmpf .olt main_v6 main_v7
  (main_v2, main_v5, main_v8)
-- ==== Pre_finite_ReferenceIdeal.lean ====
abbrev S8x512x768 : Shape := ⟨3, ![8, 512, 768]⟩
abbrev S768x2048 : Shape := ⟨2, ![768, 2048]⟩
abbrev S8x512x32x64 : Shape := ⟨4, ![8, 512, 32, 64]⟩
abbrev S2048x768 : Shape := ⟨2, ![2048, 768]⟩
abbrev S_ : Shape := ⟨0, ![]⟩

class Facts : Prop where
  bcast_S_S8x512x768 : S_.BroadcastsInDim S8x512x768 (![] : Fin 0 → Fin S8x512x768.rank)
  bcast_S_S768x2048 : S_.BroadcastsInDim S768x2048 (![] : Fin 0 → Fin S768x2048.rank)
  bcast_S_S8x512x32x64 : S_.BroadcastsInDim S8x512x32x64 (![] : Fin 0 → Fin S8x512x32x64.rank)

variable [Facts]

def fn {F : FTy → Type} [FloatOps F] (main_arg0 : FVec F S8x512x768 .f32) (main_arg1 : FVec F S768x2048 .f32) (main_arg2 : FVec F S8x512x32x64 .f32) (main_arg3 : FVec F S8x512x32x64 .f32) (main_arg4 : FVec F S2048x768 .f32) : IVec S8x512x768 1 × IVec S768x2048 1 × IVec S8x512x32x64 1 :=
  let main_v0 : FVec F S8x512x768 .f32 := Host.absf main_arg0
  let main_cst : FVec F S_ .f32 := constant S_ .f32 0x7F800000#32
  let main_v1 : FVec F S8x512x768 .f32 := broadcastInDim S8x512x768 ![] bcast_S_S8x512x768 main_cst
  let main_v2 : IVec S8x512x768 1 := cmpf .olt main_v0 main_v1
  let main_v3 : FVec F S768x2048 .f32 := Host.absf main_arg1
  let main_cst_0 : FVec F S_ .f32 := constant S_ .f32 0x7F800000#32
  let main_v4 : FVec F S768x2048 .f32 := broadcastInDim S768x2048 ![] bcast_S_S768x2048 main_cst_0
  let main_v5 : IVec S768x2048 1 := cmpf .olt main_v3 main_v4
  let main_v6 : FVec F S8x512x32x64 .f32 := Host.absf main_arg2
  let main_cst_1 : FVec F S_ .f32 := constant S_ .f32 0x7F800000#32
  let main_v7 : FVec F S8x512x32x64 .f32 := broadcastInDim S8x512x32x64 ![] bcast_S_S8x512x32x64 main_cst_1
  let main_v8 : IVec S8x512x32x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S8x512x32x64 : Shape := ⟨4, ![8, 512, 32, 64]⟩
abbrev S512x768 : Shape := ⟨2, ![512, 768]⟩
abbrev S_ : Shape := ⟨0, ![]⟩
abbrev S2x512x32x64 : Shape := ⟨4, ![2, 512, 32, 64]⟩
abbrev S2x2x4x64x768 : Shape := ⟨5, ![2, 2, 4, 64, 768]⟩
abbrev S2x4x2x64x768 : Shape := ⟨5, ![2, 4, 2, 64, 768]⟩
abbrev S1024x768 : Shape := ⟨2, ![1024, 768]⟩
abbrev S2x2x4x64x4x8x64 : Shape := ⟨7, ![2, 2, 4, 64, 4, 8, 64]⟩
abbrev S4x2x4x2x64x8x64 : Shape := ⟨7, ![4, 2, 4, 2, 64, 8, 64]⟩
abbrev S4x1024x512 : Shape := ⟨3, ![4, 1024, 512]⟩
abbrev S3x768x512 : Shape := ⟨3, ![3, 768, 512]⟩
abbrev S3x512x768 : Shape := ⟨3, ![3, 512, 768]⟩
abbrev S1024x512 : Shape := ⟨2, ![1024, 512]⟩
abbrev S3 : Shape := ⟨1, ![3]⟩
abbrev S1 : Shape := ⟨1, ![1]⟩
abbrev S1x768x512 : Shape := ⟨3, ![1, 768, 512]⟩
abbrev S1x512x768 : Shape := ⟨3, ![1, 512, 768]⟩
abbrev S128x64 : Shape := ⟨2, ![128, 64]⟩
abbrev S1x128x64 : Shape := ⟨3, ![1, 128, 64]⟩
abbrev S128x128 : Shape := ⟨2, ![128, 128]⟩
abbrev S128 : Shape := ⟨1, ![128]⟩
abbrev S128x1 : Shape := ⟨2, ![128, 1]⟩

abbrev nBuf : Space → Nat
  | .hbm => 46
  | .vmem => 10
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S8x512x32x64, .f32⟩
  | .hbm, ⟨3, _⟩ => ⟨S8x512x32x64, .f32⟩
  | .hbm, ⟨4, _⟩ => ⟨S512x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x32x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x32x64, .f32⟩
  | .hbm, ⟨33, _⟩ => ⟨S2x2x4x64x768, .f32⟩
  | .hbm, ⟨34, _⟩ => ⟨S2x4x2x64x768, .f32⟩
  | .hbm, ⟨35, _⟩ => ⟨S1024x768, .f32⟩
  | .hbm, ⟨36, _⟩ => ⟨S2x2x4x64x4x8x64, .f32⟩
  | .hbm, ⟨37, _⟩ => ⟨S4x2x4x2x64x8x64, .f32⟩
  | .hbm, ⟨38, _⟩ => ⟨S4x1024x512, .f32⟩
  | .hbm, ⟨39, _⟩ => ⟨S2x2x4x64x4x8x64, .f32⟩
  | .hbm, ⟨40, _⟩ => ⟨S4x2x4x2x64x8x64, .f32⟩
  | .hbm, ⟨41, _⟩ => ⟨S4x1024x512, .f32⟩
  | .hbm, ⟨42, _⟩ => ⟨S1024x768, .f32⟩
  | .hbm, ⟨43, _⟩ => ⟨S2x4x2x64x768, .f32⟩
  | .hbm, ⟨44, _⟩ => ⟨S2x2x4x64x768, .f32⟩
  | .hbm, ⟨45, _⟩ => ⟨S2x512x768, .f32⟩
  | .local _ .vmem, ⟨0, _⟩ => ⟨S1024x768, .f32⟩
  | .local _ .vmem, ⟨1, _⟩ => ⟨S768x512, .f32⟩
  | .local _ .vmem, ⟨2, _⟩ => ⟨S4x1024x512, .f32⟩
  | .local _ .vmem, ⟨3, _⟩ => ⟨S4x1024x512, .f32⟩
  | .local _ .vmem, ⟨4, _⟩ => ⟨S512x768, .f32⟩
  | .local _ .vmem, ⟨5, _⟩ => ⟨S1024x768, .f32⟩
  | .local _ .vmem, ⟨6, _⟩ => ⟨S3x768x512, .f32⟩
  | .local _ .vmem, ⟨7, _⟩ => ⟨S3x512x768, .f32⟩
  | .local _ .vmem, ⟨8, _⟩ => ⟨S1024x512, .f32⟩
  | .local _ .vmem, ⟨9, _⟩ => ⟨S1024x512, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_11 : BitVec 32 := 1#32
  let v12 : BitVec 32 := Scalar.muli v6 c1_i32_11
  let v13 : BitVec 32 := Scalar.addi c0_i32_12 v12
  v13.toNat
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_18 : BitVec 32 := 1#32
  let v20 : BitVec 32 := Scalar.muli v6 c1_i32_18
  let v21 : BitVec 32 := Scalar.addi c0_i32_19 v20
  v21.toNat
@[reducible] def k0_t1_loop : Scf.Loop 32 :=
  let c0_i32_29 : BitVec 32 := 0#32
  let c8_i32 : BitVec 32 := 8#32
  let v38 : BitVec 32 := Scalar.addi c0_i32_29 c8_i32
  let c1_i32_30 : BitVec 32 := 1#32
  ⟨c0_i32_29, v38, c1_i32_30⟩
def k0_off1 (k0_t1 : Fin k0_t1_loop.trips) : Fin 2 → Nat :=
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v216 : Index := Scalar.indexCast v215
  let c0_249 : Index := 0#32
  ![v216.toNat, 0]
def k0_off2 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v218 : Index := Scalar.indexCast v2
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v219 : Index := Scalar.indexCast v215
  let c0_250 : Index := 0#32
  ![v218.toNat, v219.toNat, 0]
def k0_off3 (k0_t1 : Fin k0_t1_loop.trips) : Fin 2 → Nat :=
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v243 : Index := Scalar.indexCast v215
  let c64 : Index := 64#32
  ![v243.toNat, 64]
def k0_off4 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v245 : Index := Scalar.indexCast v2
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v246 : Index := Scalar.indexCast v215
  let c64_258 : Index := 64#32
  ![v245.toNat, v246.toNat, 64]
def k0_off5 (k0_t1 : Fin k0_t1_loop.trips) : Fin 2 → Nat :=
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v270 : Index := Scalar.indexCast v215
  let c128 : Index := 128#32
  ![v270.toNat, 128]
def k0_off6 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v272 : Index := Scalar.indexCast v2
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v273 : Index := Scalar.indexCast v215
  let c128_266 : Index := 128#32
  ![v272.toNat, v273.toNat, 128]
def k0_off7 (k0_t1 : Fin k0_t1_loop.trips) : Fin 2 → Nat :=
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v297 : Index := Scalar.indexCast v215
  let c192 : Index := 192#32
  ![v297.toNat, 192]
def k0_off8 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v299 : Index := Scalar.indexCast v2
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v300 : Index := Scalar.indexCast v215
  let c192_274 : Index := 192#32
  ![v299.toNat, v300.toNat, 192]
def k0_off9 (k0_t1 : Fin k0_t1_loop.trips) : Fin 2 → Nat :=
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v324 : Index := Scalar.indexCast v215
  let c256 : Index := 256#32
  ![v324.toNat, 256]
def k0_off10 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v326 : Index := Scalar.indexCast v2
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v327 : Index := Scalar.indexCast v215
  let c256_282 : Index := 256#32
  ![v326.toNat, v327.toNat, 256]
def k0_off11 (k0_t1 : Fin k0_t1_loop.trips) : Fin 2 → Nat :=
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v351 : Index := Scalar.indexCast v215
  let c320 : Index := 320#32
  ![v351.toNat, 320]
def k0_off12 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v353 : Index := Scalar.indexCast v2
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v354 : Index := Scalar.indexCast v215
  let c320_290 : Index := 320#32
  ![v353.toNat, v354.toNat, 320]
def k0_off13 (k0_t1 : Fin k0_t1_loop.trips) : Fin 2 → Nat :=
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v378 : Index := Scalar.indexCast v215
  let c384 : Index := 384#32
  ![v378.toNat, 384]
def k0_off14 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v380 : Index := Scalar.indexCast v2
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v381 : Index := Scalar.indexCast v215
  let c384_298 : Index := 384#32
  ![v380.toNat, v381.toNat, 384]
def k0_off15 (k0_t1 : Fin k0_t1_loop.trips) : Fin 2 → Nat :=
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v405 : Index := Scalar.indexCast v215
  let c448 : Index := 448#32
  ![v405.toNat, 448]
def k0_off16 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v407 : Index := Scalar.indexCast v2
  let c0_i32_29 : BitVec 32 := 0#32
  let c1_i32_30 : BitVec 32 := 1#32
  let arg14 : BitVec 32 := Scf.iv c0_i32_29 c1_i32_30 k0_t1
  let c128_i32 : BitVec 32 := 128#32
  let v215 : BitVec 32 := Scalar.muli arg14 c128_i32
  let v408 : Index := Scalar.indexCast v215
  let c448_306 : Index := 448#32
  ![v407.toNat, v408.toNat, 448]
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_55 : BitVec 32 := 1#32
  let v54 : BitVec 32 := Scalar.muli v6 c1_i32_55
  let v55 : BitVec 32 := Scalar.addi c0_i32_56 v54
  v55.toNat
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_65 : BitVec 32 := 1#32
  let v64 : BitVec 32 := Scalar.muli v6 c1_i32_65
  let v65 : BitVec 32 := Scalar.addi c0_i32_66 v64
  v65.toNat
@[reducible] def k0_t2_loop : Scf.Loop 32 :=
  let c0_i32_84 : BitVec 32 := 0#32
  let c8_i32_85 : BitVec 32 := 8#32
  let v86 : BitVec 32 := Scalar.addi c0_i32_84 c8_i32_85
  let c1_i32_86 : BitVec 32 := 1#32
  ⟨c0_i32_84, v86, c1_i32_86⟩
def k0_off17 (k0_t2 : Fin k0_t2_loop.trips) : Fin 2 → Nat :=
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v216 : Index := Scalar.indexCast v215
  let c0_249 : Index := 0#32
  ![v216.toNat, 0]
def k0_off18 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v74 : BitVec 32 := Scalar.addi v2 c3_i32_71
  let c4_i32_72 : BitVec 32 := 4#32
  let v75 : BitVec 32 := Scalar.remsi v74 c4_i32_72
  let v218 : Index := Scalar.indexCast v75
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v219 : Index := Scalar.indexCast v215
  let c0_250 : Index := 0#32
  ![v218.toNat, v219.toNat, 0]
def k0_off19 (k0_t2 : Fin k0_t2_loop.trips) : Fin 2 → Nat :=
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v243 : Index := Scalar.indexCast v215
  let c64 : Index := 64#32
  ![v243.toNat, 64]
def k0_off20 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v74 : BitVec 32 := Scalar.addi v2 c3_i32_71
  let c4_i32_72 : BitVec 32 := 4#32
  let v75 : BitVec 32 := Scalar.remsi v74 c4_i32_72
  let v245 : Index := Scalar.indexCast v75
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v246 : Index := Scalar.indexCast v215
  let c64_258 : Index := 64#32
  ![v245.toNat, v246.toNat, 64]
def k0_off21 (k0_t2 : Fin k0_t2_loop.trips) : Fin 2 → Nat :=
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v270 : Index := Scalar.indexCast v215
  let c128 : Index := 128#32
  ![v270.toNat, 128]
def k0_off22 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v74 : BitVec 32 := Scalar.addi v2 c3_i32_71
  let c4_i32_72 : BitVec 32 := 4#32
  let v75 : BitVec 32 := Scalar.remsi v74 c4_i32_72
  let v272 : Index := Scalar.indexCast v75
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v273 : Index := Scalar.indexCast v215
  let c128_266 : Index := 128#32
  ![v272.toNat, v273.toNat, 128]
def k0_off23 (k0_t2 : Fin k0_t2_loop.trips) : Fin 2 → Nat :=
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v297 : Index := Scalar.indexCast v215
  let c192 : Index := 192#32
  ![v297.toNat, 192]
def k0_off24 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v74 : BitVec 32 := Scalar.addi v2 c3_i32_71
  let c4_i32_72 : BitVec 32 := 4#32
  let v75 : BitVec 32 := Scalar.remsi v74 c4_i32_72
  let v299 : Index := Scalar.indexCast v75
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v300 : Index := Scalar.indexCast v215
  let c192_274 : Index := 192#32
  ![v299.toNat, v300.toNat, 192]
def k0_off25 (k0_t2 : Fin k0_t2_loop.trips) : Fin 2 → Nat :=
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v324 : Index := Scalar.indexCast v215
  let c256 : Index := 256#32
  ![v324.toNat, 256]
def k0_off26 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v74 : BitVec 32 := Scalar.addi v2 c3_i32_71
  let c4_i32_72 : BitVec 32 := 4#32
  let v75 : BitVec 32 := Scalar.remsi v74 c4_i32_72
  let v326 : Index := Scalar.indexCast v75
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v327 : Index := Scalar.indexCast v215
  let c256_282 : Index := 256#32
  ![v326.toNat, v327.toNat, 256]
def k0_off27 (k0_t2 : Fin k0_t2_loop.trips) : Fin 2 → Nat :=
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v351 : Index := Scalar.indexCast v215
  let c320 : Index := 320#32
  ![v351.toNat, 320]
def k0_off28 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v74 : BitVec 32 := Scalar.addi v2 c3_i32_71
  let c4_i32_72 : BitVec 32 := 4#32
  let v75 : BitVec 32 := Scalar.remsi v74 c4_i32_72
  let v353 : Index := Scalar.indexCast v75
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v354 : Index := Scalar.indexCast v215
  let c320_290 : Index := 320#32
  ![v353.toNat, v354.toNat, 320]
def k0_off29 (k0_t2 : Fin k0_t2_loop.trips) : Fin 2 → Nat :=
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v378 : Index := Scalar.indexCast v215
  let c384 : Index := 384#32
  ![v378.toNat, 384]
def k0_off30 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v74 : BitVec 32 := Scalar.addi v2 c3_i32_71
  let c4_i32_72 : BitVec 32 := 4#32
  let v75 : BitVec 32 := Scalar.remsi v74 c4_i32_72
  let v380 : Index := Scalar.indexCast v75
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v381 : Index := Scalar.indexCast v215
  let c384_298 : Index := 384#32
  ![v380.toNat, v381.toNat, 384]
def k0_off31 (k0_t2 : Fin k0_t2_loop.trips) : Fin 2 → Nat :=
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v405 : Index := Scalar.indexCast v215
  let c448 : Index := 448#32
  ![v405.toNat, 448]
def k0_off32 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v74 : BitVec 32 := Scalar.addi v2 c3_i32_71
  let c4_i32_72 : BitVec 32 := 4#32
  let v75 : BitVec 32 := Scalar.remsi v74 c4_i32_72
  let v407 : Index := Scalar.indexCast v75
  let c0_i32_84 : BitVec 32 := 0#32
  let c1_i32_86 : BitVec 32 := 1#32
  let arg14 : BitVec 32 := Scf.iv c0_i32_84 c1_i32_86 k0_t2
  let c128_i32 : BitVec 32 := 128#32
  let v215 : BitVec 32 := Scalar.muli arg14 c128_i32
  let v408 : Index := Scalar.indexCast v215
  let c448_306 : Index := 448#32
  ![v407.toNat, v408.toNat, 448]
def k0_dev7 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_119 : BitVec 32 := 1#32
  let v109 : BitVec 32 := Scalar.muli v6 c1_i32_119
  let v110 : BitVec 32 := Scalar.addi c0_i32_120 v109
  v110.toNat
def k0_dev8 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_129 : BitVec 32 := 1#32
  let v119 : BitVec 32 := Scalar.muli v6 c1_i32_129
  let v120 : BitVec 32 := Scalar.addi c0_i32_130 v119
  v120.toNat
@[reducible] def k0_t3_loop : Scf.Loop 32 :=
  let c0_i32_147 : BitVec 32 := 0#32
  let c8_i32_148 : BitVec 32 := 8#32
  let v141 : BitVec 32 := Scalar.addi c0_i32_147 c8_i32_148
  let c1_i32_149 : BitVec 32 := 1#32
  ⟨c0_i32_147, v141, c1_i32_149⟩
def k0_off33 (k0_t3 : Fin k0_t3_loop.trips) : Fin 2 → Nat :=
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v216 : Index := Scalar.indexCast v215
  let c0_249 : Index := 0#32
  ![v216.toNat, 0]
def k0_off34 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_135 : BitVec 32 := 2#32
  let v129 : BitVec 32 := Scalar.addi v2 c2_i32_135
  let c4_i32_136 : BitVec 32 := 4#32
  let v130 : BitVec 32 := Scalar.remsi v129 c4_i32_136
  let v218 : Index := Scalar.indexCast v130
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v219 : Index := Scalar.indexCast v215
  let c0_250 : Index := 0#32
  ![v218.toNat, v219.toNat, 0]
def k0_off35 (k0_t3 : Fin k0_t3_loop.trips) : Fin 2 → Nat :=
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v243 : Index := Scalar.indexCast v215
  let c64 : Index := 64#32
  ![v243.toNat, 64]
def k0_off36 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_135 : BitVec 32 := 2#32
  let v129 : BitVec 32 := Scalar.addi v2 c2_i32_135
  let c4_i32_136 : BitVec 32 := 4#32
  let v130 : BitVec 32 := Scalar.remsi v129 c4_i32_136
  let v245 : Index := Scalar.indexCast v130
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v246 : Index := Scalar.indexCast v215
  let c64_258 : Index := 64#32
  ![v245.toNat, v246.toNat, 64]
def k0_off37 (k0_t3 : Fin k0_t3_loop.trips) : Fin 2 → Nat :=
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v270 : Index := Scalar.indexCast v215
  let c128 : Index := 128#32
  ![v270.toNat, 128]
def k0_off38 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_135 : BitVec 32 := 2#32
  let v129 : BitVec 32 := Scalar.addi v2 c2_i32_135
  let c4_i32_136 : BitVec 32 := 4#32
  let v130 : BitVec 32 := Scalar.remsi v129 c4_i32_136
  let v272 : Index := Scalar.indexCast v130
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v273 : Index := Scalar.indexCast v215
  let c128_266 : Index := 128#32
  ![v272.toNat, v273.toNat, 128]
def k0_off39 (k0_t3 : Fin k0_t3_loop.trips) : Fin 2 → Nat :=
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v297 : Index := Scalar.indexCast v215
  let c192 : Index := 192#32
  ![v297.toNat, 192]
def k0_off40 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_135 : BitVec 32 := 2#32
  let v129 : BitVec 32 := Scalar.addi v2 c2_i32_135
  let c4_i32_136 : BitVec 32 := 4#32
  let v130 : BitVec 32 := Scalar.remsi v129 c4_i32_136
  let v299 : Index := Scalar.indexCast v130
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v300 : Index := Scalar.indexCast v215
  let c192_274 : Index := 192#32
  ![v299.toNat, v300.toNat, 192]
def k0_off41 (k0_t3 : Fin k0_t3_loop.trips) : Fin 2 → Nat :=
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v324 : Index := Scalar.indexCast v215
  let c256 : Index := 256#32
  ![v324.toNat, 256]
def k0_off42 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_135 : BitVec 32 := 2#32
  let v129 : BitVec 32 := Scalar.addi v2 c2_i32_135
  let c4_i32_136 : BitVec 32 := 4#32
  let v130 : BitVec 32 := Scalar.remsi v129 c4_i32_136
  let v326 : Index := Scalar.indexCast v130
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v327 : Index := Scalar.indexCast v215
  let c256_282 : Index := 256#32
  ![v326.toNat, v327.toNat, 256]
def k0_off43 (k0_t3 : Fin k0_t3_loop.trips) : Fin 2 → Nat :=
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v351 : Index := Scalar.indexCast v215
  let c320 : Index := 320#32
  ![v351.toNat, 320]
def k0_off44 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_135 : BitVec 32 := 2#32
  let v129 : BitVec 32 := Scalar.addi v2 c2_i32_135
  let c4_i32_136 : BitVec 32 := 4#32
  let v130 : BitVec 32 := Scalar.remsi v129 c4_i32_136
  let v353 : Index := Scalar.indexCast v130
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v354 : Index := Scalar.indexCast v215
  let c320_290 : Index := 320#32
  ![v353.toNat, v354.toNat, 320]
def k0_off45 (k0_t3 : Fin k0_t3_loop.trips) : Fin 2 → Nat :=
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v378 : Index := Scalar.indexCast v215
  let c384 : Index := 384#32
  ![v378.toNat, 384]
def k0_off46 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_135 : BitVec 32 := 2#32
  let v129 : BitVec 32 := Scalar.addi v2 c2_i32_135
  let c4_i32_136 : BitVec 32 := 4#32
  let v130 : BitVec 32 := Scalar.remsi v129 c4_i32_136
  let v380 : Index := Scalar.indexCast v130
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v381 : Index := Scalar.indexCast v215
  let c384_298 : Index := 384#32
  ![v380.toNat, v381.toNat, 384]
def k0_off47 (k0_t3 : Fin k0_t3_loop.trips) : Fin 2 → Nat :=
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v405 : Index := Scalar.indexCast v215
  let c448 : Index := 448#32
  ![v405.toNat, 448]
def k0_off48 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_135 : BitVec 32 := 2#32
  let v129 : BitVec 32 := Scalar.addi v2 c2_i32_135
  let c4_i32_136 : BitVec 32 := 4#32
  let v130 : BitVec 32 := Scalar.remsi v129 c4_i32_136
  let v407 : Index := Scalar.indexCast v130
  let c0_i32_147 : BitVec 32 := 0#32
  let c1_i32_149 : BitVec 32 := 1#32
  let arg14 : BitVec 32 := Scf.iv c0_i32_147 c1_i32_149 k0_t3
  let c128_i32 : BitVec 32 := 128#32
  let v215 : BitVec 32 := Scalar.muli arg14 c128_i32
  let v408 : Index := Scalar.indexCast v215
  let c448_306 : Index := 448#32
  ![v407.toNat, v408.toNat, 448]
@[reducible] def k0_t4_loop : Scf.Loop 32 :=
  let c0_i32_190 : BitVec 32 := 0#32
  let c8_i32_191 : BitVec 32 := 8#32
  let v176 : BitVec 32 := Scalar.addi c0_i32_190 c8_i32_191
  let c1_i32_192 : BitVec 32 := 1#32
  ⟨c0_i32_190, v176, c1_i32_192⟩
def k0_off49 (k0_t4 : Fin k0_t4_loop.trips) : Fin 2 → Nat :=
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v216 : Index := Scalar.indexCast v215
  let c0_249 : Index := 0#32
  ![v216.toNat, 0]
def k0_off50 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_178 : BitVec 32 := 1#32
  let v164 : BitVec 32 := Scalar.addi v2 c1_i32_178
  let c4_i32_179 : BitVec 32 := 4#32
  let v165 : BitVec 32 := Scalar.remsi v164 c4_i32_179
  let v218 : Index := Scalar.indexCast v165
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v219 : Index := Scalar.indexCast v215
  let c0_250 : Index := 0#32
  ![v218.toNat, v219.toNat, 0]
def k0_off51 (k0_t4 : Fin k0_t4_loop.trips) : Fin 2 → Nat :=
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v243 : Index := Scalar.indexCast v215
  let c64 : Index := 64#32
  ![v243.toNat, 64]
def k0_off52 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_178 : BitVec 32 := 1#32
  let v164 : BitVec 32 := Scalar.addi v2 c1_i32_178
  let c4_i32_179 : BitVec 32 := 4#32
  let v165 : BitVec 32 := Scalar.remsi v164 c4_i32_179
  let v245 : Index := Scalar.indexCast v165
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v246 : Index := Scalar.indexCast v215
  let c64_258 : Index := 64#32
  ![v245.toNat, v246.toNat, 64]
def k0_off53 (k0_t4 : Fin k0_t4_loop.trips) : Fin 2 → Nat :=
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v270 : Index := Scalar.indexCast v215
  let c128 : Index := 128#32
  ![v270.toNat, 128]
def k0_off54 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_178 : BitVec 32 := 1#32
  let v164 : BitVec 32 := Scalar.addi v2 c1_i32_178
  let c4_i32_179 : BitVec 32 := 4#32
  let v165 : BitVec 32 := Scalar.remsi v164 c4_i32_179
  let v272 : Index := Scalar.indexCast v165
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v273 : Index := Scalar.indexCast v215
  let c128_266 : Index := 128#32
  ![v272.toNat, v273.toNat, 128]
def k0_off55 (k0_t4 : Fin k0_t4_loop.trips) : Fin 2 → Nat :=
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v297 : Index := Scalar.indexCast v215
  let c192 : Index := 192#32
  ![v297.toNat, 192]
def k0_off56 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_178 : BitVec 32 := 1#32
  let v164 : BitVec 32 := Scalar.addi v2 c1_i32_178
  let c4_i32_179 : BitVec 32 := 4#32
  let v165 : BitVec 32 := Scalar.remsi v164 c4_i32_179
  let v299 : Index := Scalar.indexCast v165
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v300 : Index := Scalar.indexCast v215
  let c192_274 : Index := 192#32
  ![v299.toNat, v300.toNat, 192]
def k0_off57 (k0_t4 : Fin k0_t4_loop.trips) : Fin 2 → Nat :=
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v324 : Index := Scalar.indexCast v215
  let c256 : Index := 256#32
  ![v324.toNat, 256]
def k0_off58 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_178 : BitVec 32 := 1#32
  let v164 : BitVec 32 := Scalar.addi v2 c1_i32_178
  let c4_i32_179 : BitVec 32 := 4#32
  let v165 : BitVec 32 := Scalar.remsi v164 c4_i32_179
  let v326 : Index := Scalar.indexCast v165
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v327 : Index := Scalar.indexCast v215
  let c256_282 : Index := 256#32
  ![v326.toNat, v327.toNat, 256]
def k0_off59 (k0_t4 : Fin k0_t4_loop.trips) : Fin 2 → Nat :=
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v351 : Index := Scalar.indexCast v215
  let c320 : Index := 320#32
  ![v351.toNat, 320]
def k0_off60 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_178 : BitVec 32 := 1#32
  let v164 : BitVec 32 := Scalar.addi v2 c1_i32_178
  let c4_i32_179 : BitVec 32 := 4#32
  let v165 : BitVec 32 := Scalar.remsi v164 c4_i32_179
  let v353 : Index := Scalar.indexCast v165
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v354 : Index := Scalar.indexCast v215
  let c320_290 : Index := 320#32
  ![v353.toNat, v354.toNat, 320]
def k0_off61 (k0_t4 : Fin k0_t4_loop.trips) : Fin 2 → Nat :=
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v378 : Index := Scalar.indexCast v215
  let c384 : Index := 384#32
  ![v378.toNat, 384]
def k0_off62 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_178 : BitVec 32 := 1#32
  let v164 : BitVec 32 := Scalar.addi v2 c1_i32_178
  let c4_i32_179 : BitVec 32 := 4#32
  let v165 : BitVec 32 := Scalar.remsi v164 c4_i32_179
  let v380 : Index := Scalar.indexCast v165
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v381 : Index := Scalar.indexCast v215
  let c384_298 : Index := 384#32
  ![v380.toNat, v381.toNat, 384]
def k0_off63 (k0_t4 : Fin k0_t4_loop.trips) : Fin 2 → Nat :=
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v405 : Index := Scalar.indexCast v215
  let c448 : Index := 448#32
  ![v405.toNat, 448]
def k0_off64 (d0 : Dev nD) (k0_t4 : Fin k0_t4_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_178 : BitVec 32 := 1#32
  let v164 : BitVec 32 := Scalar.addi v2 c1_i32_178
  let c4_i32_179 : BitVec 32 := 4#32
  let v165 : BitVec 32 := Scalar.remsi v164 c4_i32_179
  let v407 : Index := Scalar.indexCast v165
  let c0_i32_190 : BitVec 32 := 0#32
  let c1_i32_192 : BitVec 32 := 1#32
  let arg14 : BitVec 32 := Scf.iv c0_i32_190 c1_i32_192 k0_t4
  let c128_i32 : BitVec 32 := 128#32
  let v215 : BitVec 32 := Scalar.muli arg14 c128_i32
  let v408 : Index := Scalar.indexCast v215
  let c448_306 : Index := 448#32
  ![v407.toNat, v408.toNat, 448]
abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x512x768 : Shape := ⟨3, ![8, 512, 768]⟩
abbrev S768x2048 : Shape := ⟨2, ![768, 2048]⟩
abbrev S8x512x32x64 : Shape := ⟨4, ![8, 512, 32, 64]⟩
abbrev S2048x768 : Shape := ⟨2, ![2048, 768]⟩
abbrev S8x512x2048 : Shape := ⟨3, ![8, 512, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S8x32x512x512 : Shape := ⟨4, ![8, 32, 512, 512]⟩
abbrev S1x1x512x512 : Shape := ⟨4, ![1, 1, 512, 512]⟩
abbrev S8x32x512 : Shape := ⟨3, ![8, 32, 512]⟩
abbrev S8x32x512x1 : Shape := ⟨4, ![8, 32, 512, 1]⟩
abbrev S1x1x512x1 : Shape := ⟨4, ![1, 1, 512, 1]⟩
abbrev S8x32x64x512 : Shape := ⟨4, ![8, 32, 64, 512]⟩

abbrev nBuf : Space → Nat
  | .hbm => 137
  | .vmem => 0
  | .smem => 0
  | _ => 0

abbrev hbmTy0_0 (i : Nat) : BufTy := match i % 128 with
  | 0 => ⟨S8x512x768, .f32⟩
  | 1 => ⟨S768x2048, .f32⟩
  | 2 => ⟨S8x512x32x64, .f32⟩
  | 3 => ⟨S8x512x32x64, .f32⟩
  | 4 => ⟨S2048x768, .f32⟩
  | 5 => ⟨S8x512x2048, .f32⟩
  | 6 => ⟨S8x512x32x64, .f32⟩
  | 7 => ⟨S512, .i32⟩
  | 8 => ⟨S_, .i32⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S512, .i32⟩
  | 17 => ⟨S512, .i32⟩
  | 18 => ⟨S_, .i32⟩
  | 19 => ⟨S512, .i32⟩
  | 20 => ⟨S512, .i1⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S512, .i32⟩
  | 28 => ⟨S_, .i32⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S512, .i32⟩
  | 37 => ⟨S512, .i32⟩
  | 38 => ⟨S_, .i32⟩
  | 39 => ⟨S512, .i32⟩
  | 40 => ⟨S512, .i1⟩
  | 41 => ⟨S512, .i1⟩
  | 42 => ⟨S_, .i32⟩
  | 43 => ⟨S512, .i32⟩
  | 44 => ⟨S512, .i32⟩
  | 45 => ⟨S512, .i32⟩
  | 46 => ⟨S1x512, .i32⟩
  | 47 => ⟨S512x512, .i32⟩
  | 48 => ⟨S512x512, .i32⟩
  | 49 => ⟨S512x512, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x512, .i32⟩
  | 57 => ⟨S1x512, .i32⟩
  | 58 => ⟨S_, .i32⟩
  | 59 => ⟨S1x512, .i32⟩
  | 60 => ⟨S1x512, .i1⟩
  | 61 => ⟨S_, .i32⟩
  | 62 => ⟨S1x512, .i32⟩
  | 63 => ⟨S1x512, .i1⟩
  | 64 => ⟨S_, .i32⟩
  | 65 => ⟨S_, .i1⟩
  | 66 => ⟨S1x512, .i1⟩
  | 67 => ⟨S1x512, .i1⟩
  | 68 => ⟨S1x512, .i1⟩
  | 69 => ⟨S1x512, .i32⟩
  | 70 => ⟨S1x512, .i32⟩
  | 71 => ⟨S1x512, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S512x1, .i32⟩
  | 79 => ⟨S512x1, .i32⟩
  | 80 => ⟨S_, .i32⟩
  | 81 => ⟨S512x1, .i32⟩
  | 82 => ⟨S512x1, .i1⟩
  | 83 => ⟨S_, .i32⟩
  | 84 => ⟨S512x1, .i32⟩
  | 85 => ⟨S512x1, .i1⟩
  | 86 => ⟨S_, .i32⟩
  | 87 => ⟨S_, .i1⟩
  | 88 => ⟨S512x1, .i1⟩
  | 89 => ⟨S512x1, .i1⟩
  | 90 => ⟨S512x1, .i1⟩
  | 91 => ⟨S512x1, .i32⟩
  | 92 => ⟨S512x1, .i32⟩
  | 93 => ⟨S512x1, .i32⟩
  | 94 => ⟨S512x512, .i32⟩
  | 95 => ⟨S512x512, .i32⟩
  | 96 => ⟨S512x512, .i1⟩
  | 97 => ⟨S512x512, .i1⟩
  | 98 => ⟨S8x32x512x512, .f32⟩
  | 99 => ⟨S_, .f32⟩
  | 100 => ⟨S8x32x512x512, .f32⟩
  | 101 => ⟨S8x32x512x512, .f32⟩
  | 102 => ⟨S1x1x512x512, .i1⟩
  | 103 => ⟨S_, .f32⟩
  | 104 => ⟨S_, .f32⟩
  | 105 => ⟨S8x32x512x512, .i1⟩
  | 106 => ⟨S8x32x512x512, .f32⟩
  | 107 => ⟨S8x32x512x512, .f32⟩
  | 108 => ⟨S_, .f32⟩
  | 109 => ⟨S8x32x512, .f32⟩
  | 110 => ⟨S8x32x512x1, .f32⟩
  | 111 => ⟨S8x32x512x512, .f32⟩
  | 112 => ⟨S8x32x512x512, .f32⟩
  | 113 => ⟨S8x32x512x512, .f32⟩
  | 114 => ⟨S_, .i1⟩
  | 115 => ⟨S512, .i1⟩
  | 116 => ⟨S1x1x512x1, .i1⟩
  | 117 => ⟨S_, .f32⟩
  | 118 => ⟨S8x32x512, .f32⟩
  | 119 => ⟨S8x32x512x1, .f32⟩
  | 120 => ⟨S_, .f32⟩
  | 121 => ⟨S_, .f32⟩
  | 122 => ⟨S8x32x512x1, .i1⟩
  | 123 => ⟨S8x32x512x1, .f32⟩
  | 124 => ⟨S8x32x512x1, .f32⟩
  | 125 => ⟨S8x32x512x512, .f32⟩
  | 126 => ⟨S8x32x512x512, .f32⟩
  | 127 => ⟨S1x1x512x1, .i1⟩
  | _ => ⟨S8x512x768, .f32⟩

abbrev hbmTy0_1 (i : Nat) : BufTy := match i % 128 with
  | 0 => ⟨S_, .f32⟩
  | 1 => ⟨S_, .f32⟩
  | 2 => ⟨S8x32x512x512, .i1⟩
  | 3 => ⟨S8x32x512x512, .f32⟩
  | 4 => ⟨S8x32x512x512, .f32⟩
  | 5 => ⟨S8x32x64x512, .f32⟩
  | 6 => ⟨S8x512x32x64, .f32⟩
  | 7 => ⟨S8x512x2048, .f32⟩
  | 8 => ⟨S8x512x768, .f32⟩
  | _ => ⟨S8x512x768, .f32⟩

abbrev hbmTy (i : Nat) : BufTy := match i / 128 with
  | 0 => hbmTy0_0 i
  | 1 => hbmTy0_1 i
  | _ => ⟨S8x512x768, .f32⟩

abbrev bufTy : (tb : Table) → Fin (tcTables nBuf tb) → BufTy
  | .hbm, ⟨i, _⟩ => hbmTy i
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Attend.lean ====
/-
  One head group's attention, as the kernel's inner loops compute it: eight query blocks of 128 rows, each against the
  key block of the same rows, one head of 64 lanes at a time. `attend q k v j` names the whole 1024 × 512 array that
  the eight trips of a loop leave in the context scratch, and `trip1` … `trip4` run one trip of each of the four loops.
-/
module

public import proofs.«01_k».proof.Proof.Gen.KernelIdeal.Loops
public import Idealize.ShloMosaic.Lib.WritesUnit
public import Idealize.ShloMosaic.Lib.ValueIdxCore
public import Idealize.ShloMosaic.Lib.Pipeline.ValueKit

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring of four devices -/

/-- The device to the right, to which a device's blocks move. -/
def nxt (c : Dev nD) : Dev nD := ⟨(c.val + 1) % 4, Nat.mod_lt _ (by decide)⟩

/-- The device to the left. -/
def prv (c : Dev nD) : Dev nD := ⟨(c.val + 3) % 4, Nat.mod_lt _ (by decide)⟩

/-- The device opposite. -/
def opp (c : Dev nD) : Dev nD := ⟨(c.val + 2) % 4, Nat.mod_lt _ (by decide)⟩

/-! ## The value of one loop -/

/-- Rows `128 b …`, lanes `64 h …` of the query array. -/
def qTile (q : Vec F S1024x512 .f32) (b h : Fin 8) : Vec F S128x64 .f32 :=
  fun x => q (ix2 (n0 := 1024) (n1 := 512) ⟨128 * b + (x 0).val, by have : (x 0).val < 128 := (x 0).isLt; omega⟩
    ⟨64 * h + (x 1).val, by have : (x 1).val < 64 := (x 1).isLt; omega⟩)

/-- Rows `128 b …`, lanes `64 h …` of head group `j` of a key or value array. -/
def kTile (k : Vec F S4x1024x512 .f32) (j : Fin 4) (b h : Fin 8) : Vec F S1x128x64 .f32 :=
  fun x => k (ix3 (n0 := 4) (n1 := 1024) (n2 := 512) j ⟨128 * b + (x 1).val, by have : (x 1).val < 128 := (x 1).isLt; omega⟩
    ⟨64 * h + (x 2).val, by have : (x 2).val < 64 := (x 2).isLt; omega⟩)

/-- The context array of head group `j`: at row `r` and lane `l` the attention of query block `r / 128` and head
    `l / 64` against the key and value rows of the same block. -/
def attend (q : Vec F S1024x512 .f32) (k v : Vec F S4x1024x512 .f32) (j : Fin 4) : Vec F S1024x512 .f32 :=
  fun y =>
    have h0 : (y 0).val < 1024 := (y 0).isLt
    have h1 : (y 1).val < 512 := (y 1).isLt
    k0_pay1 (qTile q ⟨(y 0).val / 128, by omega⟩ ⟨(y 1).val / 64, by omega⟩)
      (kTile k j ⟨(y 0).val / 128, by omega⟩ ⟨(y 1).val / 64, by omega⟩)
      (kTile v j ⟨(y 0).val / 128, by omega⟩ ⟨(y 1).val / 64, by omega⟩)
      (ix2 (n0 := 128) (n1 := 64) ⟨(y 0).val % 128, by omega⟩ ⟨(y 1).val % 64, by omega⟩)

/-- Block `b`, head `h` of the context array is one head's attention. -/
theorem attend_tile (q : Vec F S1024x512 .f32) (k v : Vec F S4x1024x512 .f32) (j : Fin 4) (b h : Fin 8)
    (y : S1024x512.Idx) (x : S128x64.Idx) (h0 : (y 0).val = 128 * b.val + (x 0).val)
    (h1 : (y 1).val = 64 * h.val + (x 1).val) :
    attend q k v j y = k0_pay1 (qTile q b h) (kTile k j b h) (kTile v j b h) x := by
  have hx0 : (x 0).val < 128 := (x 0).isLt
  have hx1 : (x 1).val < 64 := (x 1).isLt
  have hb : (⟨(y 0).val / 128, by omega⟩ : Fin 8) = b := Fin.ext (by show (y 0).val / 128 = b.val; omega)
  have hh : (⟨(y 1).val / 64, by omega⟩ : Fin 8) = h := Fin.ext (by show (y 1).val / 64 = h.val; omega)
  have hx : (ix2 (n0 := 128) (n1 := 64) ⟨(y 0).val % 128, by omega⟩ ⟨(y 1).val % 64, by omega⟩ : S128x64.Idx) = x := by
    funext a
    match a with
    | ⟨0, _⟩ => exact Fin.ext (by show (y 0).val % 128 = (x 0).val; omega)
    | ⟨1, _⟩ => exact Fin.ext (by show (y 1).val % 64 = (x 1).val; omega)
  unfold attend
  dsimp only
  rw [hb, hh, hx]

/-- A load of block `b`, head `h` of the query scratch. -/
theorem ld_qTile (q : Vec F S1024x512 .f32) (b h : Fin 8) {off : Fin 2 → ℕ} (inb)
    (hoff : off = ![128 * b.val, 64 * h.val]) :
    View.ld (Val := Elt F) (e' := .f32) q (Rect.unit (s := S1024x512) off S128x64.size inb) = qTile q b h := by
  subst hoff
  funext x
  refine congrArg q (funext fun a => ?_)
  match a with
  | ⟨0, _⟩ => exact Fin.ext (by show 128 * b.val + 1 * (x 0).val = 128 * b.val + (x 0).val; omega)
  | ⟨1, _⟩ => exact Fin.ext (by show 64 * h.val + 1 * (x 1).val = 64 * h.val + (x 1).val; omega)

/-- A load of block `b`, head `h` of group `j` of the keys or values. -/
theorem ld_kTile (k : Vec F S4x1024x512 .f32) (j : Fin 4) (b h : Fin 8) {off : Fin 3 → ℕ} (inb)
    (hoff : off = ![j.val, 128 * b.val, 64 * h.val]) :
    View.ld (Val := Elt F) (e' := .f32) k (Rect.unit (s := S4x1024x512) off S1x128x64.size inb) = kTile k j b h := by
  subst hoff
  funext x
  refine congrArg k (funext fun a => ?_)
  have hx0 : (x 0).val < 1 := (x 0).isLt
  match a with
  | ⟨0, _⟩ => exact Fin.ext (by show j.val + 1 * (x 0).val = j.val; omega)
  | ⟨1, _⟩ => exact Fin.ext (by show 128 * b.val + 1 * (x 1).val = 128 * b.val + (x 1).val; omega)
  | ⟨2, _⟩ => exact Fin.ext (by show 64 * h.val + 1 * (x 2).val = 64 * h.val + (x 2).val; omega)

/-- `f` holds the context array on the first `n` blocks of rows, and on the first `m` heads of the next block. -/
def Filled {sp : Space} (w : View sig .tc sp S1024x512 .f32) (A : Vec F S1024x512 .f32) (f : w.ty.Contents (Elt F)) (n m : ℕ) : Prop :=
  ∀ y : S1024x512.Idx, ((y 0).val < 128 * n ∨ ((y 0).val < 128 * (n + 1) ∧ (y 1).val < 64 * m)) →
    w.read (Elt F) f y = A y

/-- Storing the next head's tile fills one head more. -/
theorem Filled.store {sp : Space} {w : View sig .tc sp S1024x512 .f32} {A : Vec F S1024x512 .f32} {f : w.ty.Contents (Elt F)}
    {L : List (View.Piece (Elt F) S1024x512 .f32)} {n m : ℕ}
    (h : Filled w A (w.writes (Elt F) f L) n m) {off : Fin 2 → ℕ} (inb) (hoff : off = ![128 * n, 64 * m])
    (p : Vec F S128x64 .f32)
    (hp : ∀ (y : S1024x512.Idx) (x : S128x64.Idx), (y 0).val = 128 * n + (x 0).val → (y 1).val = 64 * m + (x 1).val →
      p x = A y) :
    Filled w A (w.writes (Elt F) f (⟨Rect.unit (s := S1024x512) off S128x64.size inb, p⟩ :: L)) n (m + 1) := by
  intro y hy
  by_cases hin : 128 * n ≤ (y 0).val ∧ (y 0).val < 128 * n + 128 ∧ 64 * m ≤ (y 1).val ∧ (y 1).val < 64 * m + 64
  · obtain ⟨a0, a1, b0, b1⟩ := hin
    refine (View.read_writes_cons_unit_of_mem w f inb p L y
      (ix2 (n0 := 128) (n1 := 64) ⟨(y 0).val - 128 * n, by omega⟩ ⟨(y 1).val - 64 * m, by omega⟩) hoff fun a => ?_).trans
      (hp y _ ?_ ?_)
    · match a with
      | ⟨0, _⟩ => show (y 0).val = 128 * n + ((y 0).val - 128 * n); omega
      | ⟨1, _⟩ => show (y 1).val = 64 * m + ((y 1).val - 64 * m); omega
    · show (y 0).val = 128 * n + ((y 0).val - 128 * n); omega
    · show (y 1).val = 64 * m + ((y 1).val - 64 * m); omega
  · by_cases h0 : 128 * n ≤ (y 0).val ∧ (y 0).val < 128 * n + 128
    · rw [View.read_writes_cons_unit_of_not_mem w f inb p L y hoff 1
        (by show (y 1).val < 64 * m ∨ 64 * m + 64 ≤ (y 1).val; omega)]
      exact h y (by omega)
    · rw [View.read_writes_cons_unit_of_not_mem w f inb p L y hoff 0
        (by show (y 0).val < 128 * n ∨ 128 * n + 128 ≤ (y 0).val; omega)]
      exact h y (by omega)

/-- Eight heads fill a block. -/
theorem Filled.block {sp : Space} {w : View sig .tc sp S1024x512 .f32} {A : Vec F S1024x512 .f32} {f : w.ty.Contents (Elt F)} {n : ℕ}
    (h : Filled w A f n 8) : Filled w A f (n + 1) 0 := by
  intro y hy
  have h1 : (y 1).val < 512 := (y 1).isLt
  exact h y (by omega)

/-- Nothing is claimed before the first trip. -/
theorem Filled.zero {sp : Space} (w : View sig .tc sp S1024x512 .f32) (A : Vec F S1024x512 .f32) (f : w.ty.Contents (Elt F)) : Filled w A f 0 0 :=
  fun y hy => by omega

/-- Eight blocks fill the array. -/
theorem Filled.eq {sp : Space} {w : View sig .tc sp S1024x512 .f32} {A : Vec F S1024x512 .f32} {f : w.ty.Contents (Elt F)}
    (h : Filled w A f 8 0) : w.read (Elt F) f = A :=
  funext fun y => h y (Or.inl (by have : (y 0).val < 1024 := (y 0).isLt; omega))

/-- One head's tile, loaded from the three arrays, is that tile of the context array. -/
theorem tile_of_loads {q : Vec F S1024x512 .f32} {k v : Vec F S4x1024x512 .f32} {j : Fin 4} {n m : ℕ} (hn : n < 8) (hm : m < 8)
    {oq : Fin 2 → ℕ} {ok ov : Fin 3 → ℕ} (iq) (ik) (iv) (hq : oq = ![128 * n, 64 * m])
    (hk : ok = ![j.val, 128 * n, 64 * m]) (hv : ov = ![j.val, 128 * n, 64 * m]) :
    ∀ (y : S1024x512.Idx) (x : S128x64.Idx), (y 0).val = 128 * n + (x 0).val → (y 1).val = 64 * m + (x 1).val →
      k0_pay1 (View.ld (Val := Elt F) (e' := .f32) q (Rect.unit (s := S1024x512) oq S128x64.size iq))
        (View.ld (Val := Elt F) (e' := .f32) k (Rect.unit (s := S4x1024x512) ok S1x128x64.size ik))
        (View.ld (Val := Elt F) (e' := .f32) v (Rect.unit (s := S4x1024x512) ov S1x128x64.size iv)) x = attend q k v j y := by
  intro y x h0 h1
  rw [ld_qTile q ⟨n, hn⟩ ⟨m, hm⟩ iq hq, ld_kTile k j ⟨n, hn⟩ ⟨m, hm⟩ ik hk, ld_kTile v j ⟨n, hn⟩ ⟨m, hm⟩ iv hv]
  exact (attend_tile q k v j ⟨n, hn⟩ ⟨m, hm⟩ y x h0 h1).symm

end Cert.KernelIdeal.Hand
-- ==== Proof.Trip.lean ====
/-
  One trip of each of the kernel's four loops, at any resource algebra: eight heads' tiles of one block of rows go into
  the context scratch, and the loop's invariant — the blocks done so far hold the context array — moves on by a block.
-/
module

public import proofs.«01_k».proof.Proof.Attend

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

variable (𝒱 : Variants) (c : Dev nD) (bd : Option 𝒱.V) (E : Set ℕ)
  (arg0 : Memref sig .tc .vmem S1024x768 .f32) (harg0 : arg0.IsWhole) (arg1 : Memref sig .tc .vmem S768x512 .f32) (harg1 : arg1.IsWhole)
  (arg2 : Memref sig .tc .vmem S4x1024x512 .f32) (harg2 : arg2.IsWhole) (arg3 : Memref sig .tc .vmem S4x1024x512 .f32) (harg3 : arg3.IsWhole)
  (arg4 : Memref sig .tc .vmem S512x768 .f32) (harg4 : arg4.IsWhole) (arg5 : Memref sig .tc .vmem S1024x768 .f32) (harg5 : arg5.IsWhole)
  (arg6 : Memref sig .tc .vmem S3x768x512 .f32) (harg6 : arg6.IsWhole) (arg7 : Memref sig .tc .vmem S3x512x768 .f32) (harg7 : arg7.IsWhole)
  (arg8 : Memref sig .tc .vmem S1024x512 .f32) (harg8 : arg8.IsWhole) (arg9 : Memref sig .tc .vmem S1024x512 .f32) (harg9 : arg9.IsWhole)
  (arg10 arg11 arg12 arg13 : DmaSems sig S3)
  (q : Vec F S1024x512 .f32) (k v : Vec F S4x1024x512 .f32)

/-- What a loop of head group `j` holds before its trip `n`: the three arrays it reads, and the context scratch with
    the context array on its first `n` blocks of rows. -/
def loopAt (j : Fin 4) (n : ℕ) : sProp 𝕄 :=
  iprop((arg2.view.loc (c : Thread nD τ) ↦[arg2.view.set]{fullShare} harg2.unread k)
    ∗ (arg3.view.loc (c : Thread nD τ) ↦[arg3.view.set]{fullShare} harg3.unread v)
    ∗ (arg8.view.loc (c : Thread nD τ) ↦[arg8.view.set]{fullShare} harg8.unread q)
    ∗ (∃ f, (arg9.view.loc (c : Thread nD τ) ↦[arg9.view.set]{fullShare} f) ∗ ⌜Filled arg9.view (attend q k v j) f n 0⌝))

/-- One head's store, its payload computed from what the trip loads of the three arrays, fills one head more. -/
theorem Filled.head {j : Fin 4} {f : arg9.view.ty.Contents (Elt F)} {L : List (View.Piece (Elt F) S1024x512 .f32)} {n m : ℕ}
    (h : Filled arg9.view (attend q k v j) (arg9.view.writes (Elt F) f L) n m) (hn : n < 8) (hm : m < 8)
    {oq : Fin 2 → ℕ} (iq : ∀ a, oq a + S128x64.size a ≤ S1024x512.size a) (hq : oq = ![128 * n, 64 * m])
    (ok : Fin 3 → ℕ) (ik : ∀ a, ok a + S1x128x64.size a ≤ S4x1024x512.size a) (hk : ok = ![j.val, 128 * n, 64 * m])
    {p : Vec F S128x64 .f32}
    (hp : p = k0_pay1 (View.readAt (Elt F) arg8.view (Rect.unit (s := S1024x512) oq S128x64.size iq).toLoadRect (harg8.unread q))
      (View.readAt (Elt F) arg2.view (Rect.unit (s := S4x1024x512) ok S1x128x64.size ik).toLoadRect (harg2.unread k))
      (View.readAt (Elt F) arg3.view (Rect.unit (s := S4x1024x512) ok S1x128x64.size ik).toLoadRect (harg3.unread v))) :
    Filled arg9.view (attend q k v j)
      (arg9.view.writes (Elt F) f (⟨Rect.unit (s := S1024x512) oq S128x64.size iq, p⟩ :: L)) n (m + 1) := by
  refine h.store iq hq p fun y x h0 h1 => ?_
  rw [hp, View.readAt_eq_ld, View.readAt_eq_ld, View.readAt_eq_ld, harg8.read_unread, harg2.read_unread, harg3.read_unread]
  exact tile_of_loads hn hm iq ik ik hq hk hk y x h0 h1

/-- One trip of the first loop. -/
theorem trip1 (v2 v6 : BitVec 32) (n : Fin k0_t1_loop.trips) :
    loopAt (U := U) c arg2 harg2 arg3 harg3 arg8 harg8 arg9 q k v (c) n.val
      ⊢ wp frame (wpE (defs₀ (F := F)) 𝒱 (c : Thread nD τ) bd) E
          (k0_t1_body (F := F) arg0 harg0 arg1 harg1 arg2 harg2 arg3 harg3 arg4 harg4 arg5 harg5 arg6 harg6 arg7 harg7 arg8 harg8
            arg9 harg9 arg10 arg11 arg12 arg13 c v2 v6 n PUnit.unit)
          (fun _ => loopAt (U := U) c arg2 harg2 arg3 harg3 arg8 harg8 arg9 q k v (c) (n.val + 1)) := by
  have hn : n.val < 8 := Nat.lt_of_lt_of_le n.isLt k0_t1_abs.2.1
  unfold k0_t1_body loopAt
  iintro ⟨H2, H3, H8, ⟨%f, H9, %hf⟩⟩
  sl_exec
  sl_step
  isplitl [H2]; · iexact H2
  isplitl [H3]; · iexact H3
  isplitl [H8]; · iexact H8
  iexists _
  isplitl [H9]; · iexact H9
  ipureintro
  refine Filled.block ?_
  refine Filled.head (m := 7) arg2 harg2 arg3 harg3 arg8 harg8 arg9 q k v ?_ hn (by decide) (k0_off15_inb n) (k0_off15_eq n) (k0_off16 c n) (k0_off16_inb c n) (k0_off16_eq c n) rfl
  refine Filled.head (m := 6) arg2 harg2 arg3 harg3 arg8 harg8 arg9 q k v ?_ hn (by decide) (k0_off13_inb n) (k0_off13_eq n) (k0_off14 c n) (k0_off14_inb c n) (k0_off14_eq c n) rfl
  refine Filled.head (m := 5) arg2 harg2 arg3 harg3 arg8 harg8 arg9 q k v ?_ hn (by decide) (k0_off11_inb n) (k0_off11_eq n) (k0_off12 c n) (k0_off12_inb c n) (k0_off12_eq c n) rfl
  refine Filled.head (m := 4) arg2 harg2 arg3 harg3 arg8 harg8 arg9 q k v ?_ hn (by decide) (k0_off9_inb n) (k0_off9_eq n) (k0_off10 c n) (k0_off10_inb c n) (k0_off10_eq c n) rfl
  refine Filled.head (m := 3) arg2 harg2 arg3 harg3 arg8 harg8 arg9 q k v ?_ hn (by decide) (k0_off7_inb n) (k0_off7_eq n) (k0_off8 c n) (k0_off8_inb c n) (k0_off8_eq c n) rfl
  refine Filled.head (m := 2) arg2 harg2 arg3 harg3 arg8 harg8 arg9 q k v ?_ hn (by decide) (k0_off5_inb n) (k0_off5_eq n) (k0_off6 c n) (k0_off6_inb c n) (k0_off6_eq c n) rfl
  refine Filled.head (m := 1) arg2 harg2 arg3 harg3 arg8 harg8 arg9 q k v ?_ hn (by decide) (k0_off3_inb n) (k0_off3_eq n) (k0_off4 c n) (k0_off4_inb c n) (k0_off4_eq c n) rfl
  refine Filled.head (m := 0) arg2 harg2 arg3 harg3 arg8 harg8 arg9 q k v ?_ hn (by decide) (k0_off1_inb n) (k0_off1_eq n) (k0_off2 c n) (k0_off2_inb c n) (k0_off2_eq c n) rfl
  exact hf

/-- One trip of the second loop. -/
theorem trip2 (v6 v75 : BitVec 32) (v77 : FVec F S768x512 .f32) (v78 : Vec F S1x512x768 .f32) (n : Fin k0_t2_loop.trips) :
    loopAt (U := U) c arg2 harg2 arg3 harg3 arg8 harg8 arg9 q k v (prv c) n.val
      ⊢ wp frame (wpE (defs₀ (F := F)) 𝒱 (c : Thread nD τ) bd) E
          (k0_t2_body (F := F) arg0 harg0 arg1 harg1 arg2 harg2 arg3 harg3 arg4 harg4 arg5 harg5 arg6 harg6 arg7 harg7 arg8 harg8
            arg9 harg9 arg10 arg11 arg12 arg13 c v6 v75 v77 v78 n PUnit.unit)
          (fun _ => loopAt (U := U) c arg2 harg2 arg3 harg3 arg8 harg8 arg9 q k v (prv c) (n.val + 1)) := by
  have hn : n.val < 8 := Nat.lt_of_lt_of_le n.isLt k0_t2_abs.2.1
  unfold k0_t2_body loopAt
  iintro ⟨H2, H3, H8, ⟨%f, H9, %hf⟩⟩
  sl_exec
  sl_step
  isplitl [H2]; · iexact H2
  isplitl [H3]; · iexact H3
  isplitl [H8]; · iexact H8
  iexists _
  isplitl [H9]; · iexact H9
  ipureintro
  refine Filled.block ?_
  refine Filled.head (m := 7) arg2 harg2 arg3 harg3 arg8 harg8 arg9 q k v ?_ hn (by decide) (k0_off31_inb n) (k0_off31_eq n) (k0_off32 c n) (k0_off32_inb c n) (k0_off32_eq c n) rfl
  refine Filled.head (m := 6) arg2 harg2 arg3 harg3 arg8 harg8 arg9 q k v ?_ hn (by decide) (k0_off29_inb n) (k0_off29_eq n) (k0_off30 c n) (k0_off30_inb c n) (k0_off30_eq c n) rfl
  refine Filled.head (m := 5) arg2 harg2 arg3 harg3 arg8 harg8 arg9 q k v ?_ hn (by decide) (k0_off27_inb n) (k0_off27_eq n) (k0_off28 c n) (k0_off28_inb c n) (k0_off28_eq c n) rfl
  refine Filled.head (m := 4) arg2 harg2 arg3 harg3 arg8 harg8 arg9 q k v ?_ hn (by decide) (k0_off25_inb n) (k0_off25_eq n) (k0_off26 c n) (k0_off26_inb c n) (k0_off26_eq c n) rfl
  refine Filled.head (m := 3) arg2 harg2 arg3 harg3 arg8 harg8 arg9 q k v ?_ hn (by decide) (k0_off23_inb n) (k0_off23_eq n) (k0_off24 c n) (k0_off24_inb c n) (k0_off24_eq c n) rfl
  refine Filled.head (m := 2) arg2 harg2 arg3 harg3 arg8 harg8 arg9 q k v ?_ hn (by decide) (k0_off21_inb n) (k0_off21_eq n) (k0_off22 c n) (k0_off22_inb c n) (k0_off22_eq c n) rfl
  refine Filled.head (m := 1) arg2 harg2 arg3 harg3 arg8 harg8 arg9 q k v ?_ hn (by decide) (k0_off19_inb n) (k0_off19_eq n) (k0_off20 c n) (k0_off20_inb c n) (k0_off20_eq c n) rfl
  refine Filled.head (m := 0) arg2 harg2 arg3 harg3 arg8 harg8 arg9 q k v ?_ hn (by decide) (k0_off17_inb n) (k0_off17_eq n) (k0_off18 c n) (k0_off18_inb c n) (k0_off18_eq c n) rfl
  exact hf

/-- One trip of the third loop. -/
theorem trip3 (v6 v130 : BitVec 32) (n : Fin k0_t3_loop.trips) :
    loopAt (U := U) c arg2 harg2 arg3 harg3 arg8 harg8 arg9 q k v (opp c) n.val
      ⊢ wp frame (wpE (defs₀ (F := F)) 𝒱 (c : Thread nD τ) bd) E
          (k0_t3_body (F := F) arg0 harg0 arg1 harg1 arg2 harg2 arg3 harg3 arg4 harg4 arg5 harg5 arg6 harg6 arg7 harg7 arg8 harg8
            arg9 harg9 arg10 arg11 arg12 arg13 c v6 v130 n PUnit.unit)
          (fun _ => loopAt (U := U) c arg2 harg2 arg3 harg3 arg8 harg8 arg9 q k v (opp c) (n.val + 1)) := by
  have hn : n.val < 8 := Nat.lt_of_lt_of_le n.isLt k0_t3_abs.2.1
  unfold k0_t3_body loopAt
  iintro ⟨H2, H3, H8, ⟨%f, H9, %hf⟩⟩
  sl_exec
  sl_step
  isplitl [H2]; · iexact H2
  isplitl [H3]; · iexact H3
  isplitl [H8]; · iexact H8
  iexists _
  isplitl [H9]; · iexact H9
  ipureintro
  refine Filled.block ?_
  refine Filled.head (m := 7) arg2 harg2 arg3 harg3 arg8 harg8 arg9 q k v ?_ hn (by decide) (k0_off47_inb n) (k0_off47_eq n) (k0_off48 c n) (k0_off48_inb c n) (k0_off48_eq c n) rfl
  refine Filled.head (m := 6) arg2 harg2 arg3 harg3 arg8 harg8 arg9 q k v ?_ hn (by decide) (k0_off45_inb n) (k0_off45_eq n) (k0_off46 c n) (k0_off46_inb c n) (k0_off46_eq c n) rfl
  refine Filled.head (m := 5) arg2 harg2 arg3 harg3 arg8 harg8 arg9 q k v ?_ hn (by decide) (k0_off43_inb n) (k0_off43_eq n) (k0_off44 c n) (k0_off44_inb c n) (k0_off44_eq c n) rfl
  refine Filled.head (m := 4) arg2 harg2 arg3 harg3 arg8 harg8 arg9 q k v ?_ hn (by decide) (k0_off41_inb n) (k0_off41_eq n) (k0_off42 c n) (k0_off42_inb c n) (k0_off42_eq c n) rfl
  refine Filled.head (m := 3) arg2 harg2 arg3 harg3 arg8 harg8 arg9 q k v ?_ hn (by decide) (k0_off39_inb n) (k0_off39_eq n) (k0_off40 c n) (k0_off40_inb c n) (k0_off40_eq c n) rfl
  refine Filled.head (m := 2) arg2 harg2 arg3 harg3 arg8 harg8 arg9 q k v ?_ hn (by decide) (k0_off37_inb n) (k0_off37_eq n) (k0_off38 c n) (k0_off38_inb c n) (k0_off38_eq c n) rfl
  refine Filled.head (m := 1) arg2 harg2 arg3 harg3 arg8 harg8 arg9 q k v ?_ hn (by decide) (k0_off35_inb n) (k0_off35_eq n) (k0_off36 c n) (k0_off36_inb c n) (k0_off36_eq c n) rfl
  refine Filled.head (m := 0) arg2 harg2 arg3 harg3 arg8 harg8 arg9 q k v ?_ hn (by decide) (k0_off33_inb n) (k0_off33_eq n) (k0_off34 c n) (k0_off34_inb c n) (k0_off34_eq c n) rfl
  exact hf

/-- One trip of the fourth loop. -/
theorem trip4 (v2 v6 v165 : BitVec 32) (n : Fin k0_t4_loop.trips) :
    loopAt (U := U) c arg2 harg2 arg3 harg3 arg8 harg8 arg9 q k v (nxt c) n.val
      ⊢ wp frame (wpE (defs₀ (F := F)) 𝒱 (c : Thread nD τ) bd) E
          (k0_t4_body (F := F) arg0 harg0 arg1 harg1 arg2 harg2 arg3 harg3 arg4 harg4 arg5 harg5 arg6 harg6 arg7 harg7 arg8 harg8
            arg9 harg9 arg10 arg11 arg12 arg13 c v2 v6 v165 n PUnit.unit)
          (fun _ => loopAt (U := U) c arg2 harg2 arg3 harg3 arg8 harg8 arg9 q k v (nxt c) (n.val + 1)) := by
  have hn : n.val < 8 := Nat.lt_of_lt_of_le n.isLt k0_t4_abs.2.1
  unfold k0_t4_body loopAt
  iintro ⟨H2, H3, H8, ⟨%f, H9, %hf⟩⟩
  sl_exec
  sl_step
  isplitl [H2]; · iexact H2
  isplitl [H3]; · iexact H3
  isplitl [H8]; · iexact H8
  iexists _
  isplitl [H9]; · iexact H9
  ipureintro
  refine Filled.block ?_
  refine Filled.head (m := 7) arg2 harg2 arg3 harg3 arg8 harg8 arg9 q k v ?_ hn (by decide) (k0_off63_inb n) (k0_off63_eq n) (k0_off64 c n) (k0_off64_inb c n) (k0_off64_eq c n) rfl
  refine Filled.head (m := 6) arg2 harg2 arg3 harg3 arg8 harg8 arg9 q k v ?_ hn (by decide) (k0_off61_inb n) (k0_off61_eq n) (k0_off62 c n) (k0_off62_inb c n) (k0_off62_eq c n) rfl
  refine Filled.head (m := 5) arg2 harg2 arg3 harg3 arg8 harg8 arg9 q k v ?_ hn (by decide) (k0_off59_inb n) (k0_off59_eq n) (k0_off60 c n) (k0_off60_inb c n) (k0_off60_eq c n) rfl
  refine Filled.head (m := 4) arg2 harg2 arg3 harg3 arg8 harg8 arg9 q k v ?_ hn (by decide) (k0_off57_inb n) (k0_off57_eq n) (k0_off58 c n) (k0_off58_inb c n) (k0_off58_eq c n) rfl
  refine Filled.head (m := 3) arg2 harg2 arg3 harg3 arg8 harg8 arg9 q k v ?_ hn (by decide) (k0_off55_inb n) (k0_off55_eq n) (k0_off56 c n) (k0_off56_inb c n) (k0_off56_eq c n) rfl
  refine Filled.head (m := 2) arg2 harg2 arg3 harg3 arg8 harg8 arg9 q k v ?_ hn (by decide) (k0_off53_inb n) (k0_off53_eq n) (k0_off54 c n) (k0_off54_inb c n) (k0_off54_eq c n) rfl
  refine Filled.head (m := 1) arg2 harg2 arg3 harg3 arg8 harg8 arg9 q k v ?_ hn (by decide) (k0_off51_inb n) (k0_off51_eq n) (k0_off52 c n) (k0_off52_inb c n) (k0_off52_eq c n) rfl
  refine Filled.head (m := 0) arg2 harg2 arg3 harg3 arg8 harg8 arg9 q k v ?_ hn (by decide) (k0_off49_inb n) (k0_off49_eq n) (k0_off50 c n) (k0_off50_inb c n) (k0_off50_eq c n) rfl
  exact hf

end Cert.KernelIdeal.Hand
-- ==== Proof.Slots.lean ====
/-
  The two landing buffers of the ring, cut into their three slots, and what a slot holds: the block of weights that the
  copy into it brought.
-/
module

public import proofs.«01_k».proof.Proof.Trip
public import proofs.«01_k».proof.Proof.Gen.KernelIdeal.Regions
public import proofs.«01_k».proof.Proof.Gen.KernelIdeal.Points
public import Idealize.ShloMosaic.Lib.Ring
public import Idealize.ShloMosaic.Lib.ViewIndex
public import Idealize.ShloMosaic.Lib.Rounds.Family
public import Idealize.ShloMosaic.Lib.Pipeline.RegionTalk

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

/-- The landing buffer of the first weight's blocks. -/
abbrev bufQ : Memref sig .tc .vmem S3x768x512 .f32 := Memref.whole cc0_scratch0
/-- The landing buffer of the second weight's blocks. -/
abbrev bufO : Memref sig .tc .vmem S3x512x768 .f32 := Memref.whole cc0_scratch1

/-- The slot of the first landing buffer that starts at row `o` of its leading axis. -/
abbrev slotQ (o : ℕ) (hb : ∀ a, (![o, 0, 0] : Fin 3 → ℕ) a + S1x768x512.size a ≤ S3x768x512.size a) : Memref sig .tc .vmem S768x512 .f32 :=
  (bufQ.slice (Rect.unit (s := S3x768x512) ![o, 0, 0] S1x768x512.size hb) (fun _ => rfl)).squeeze S768x512 squeezes_S1x768x512_S768x512
/-- The slot of the second landing buffer that starts at row `o` of its leading axis. -/
abbrev slotO (o : ℕ) (hb : ∀ a, (![o, 0, 0] : Fin 3 → ℕ) a + S1x512x768.size a ≤ S3x512x768.size a) : Memref sig .tc .vmem S512x768 .f32 :=
  (bufO.slice (Rect.unit (s := S3x512x768) ![o, 0, 0] S1x512x768.size hb) (fun _ => rfl)).squeeze S512x768 squeezes_S1x512x768_S512x768

/-- A landing buffer that holds block `B` in each of its slots. -/
def repQ (B : Vec F S768x512 .f32) : Vec F S3x768x512 .f32 := fun y => B (ix2 (y 1) (y 2))
/-- A landing buffer that holds block `B` in each of its slots. -/
def repO (B : Vec F S512x768 .f32) : Vec F S3x512x768 .f32 := fun y => B (ix2 (y 1) (y 2))

theorem inbQ (s : Fin 3) : ∀ a, (![s.val, 0, 0] : Fin 3 → ℕ) a + S1x768x512.size a ≤ S3x768x512.size a := by
  revert s; decide
theorem inbO (s : Fin 3) : ∀ a, (![s.val, 0, 0] : Fin 3 → ℕ) a + S1x512x768.size a ≤ S3x512x768.size a := by
  revert s; decide

/-- The elements of slot `s`. -/
def elemsQ (s : Fin 3) : Finset S3x768x512.Idx := (Rect.unit (s := S3x768x512) ![s.val, 0, 0] S1x768x512.size (inbQ s)).set
/-- The elements of slot `s`. -/
def elemsO (s : Fin 3) : Finset S3x512x768.Idx := (Rect.unit (s := S3x512x768) ![s.val, 0, 0] S1x512x768.size (inbO s)).set

theorem slotQ_set (s : Fin 3) : (slotQ s.val (inbQ s)).view.set = elemsQ s :=
  (View.set_reshape _ _).trans (View.set_slice_whole _ _)
theorem slotO_set (s : Fin 3) : (slotO s.val (inbO s)).view.set = elemsO s :=
  (View.set_reshape _ _).trans (View.set_slice_whole _ _)

theorem elemsQ_disjoint (s s' : Fin 3) (h : s ≠ s') : Disjoint (elemsQ s) (elemsQ s') :=
  Ring.lead_disjoint (s := S3x768x512) (0 : Fin 3) 1 (fun s : Fin 3 => ![s.val, 0, 0]) S1x768x512.size inbQ
    (by decide) rfl s s' h
theorem elemsO_disjoint (s s' : Fin 3) (h : s ≠ s') : Disjoint (elemsO s) (elemsO s') :=
  Ring.lead_disjoint (s := S3x512x768) (0 : Fin 3) 1 (fun s : Fin 3 => ![s.val, 0, 0]) S1x512x768.size inbO
    (by decide) rfl s s' h
theorem elemsQ_cover : Finset.univ.biUnion elemsQ = Finset.univ :=
  Ring.lead_cover (s := S3x768x512) (0 : Fin 3) 1 (fun s : Fin 3 => ![s.val, 0, 0]) S1x768x512.size inbQ
    (by decide) (by decide) rfl (by decide) rfl
theorem elemsO_cover : Finset.univ.biUnion elemsO = Finset.univ :=
  Ring.lead_cover (s := S3x512x768) (0 : Fin 3) 1 (fun s : Fin 3 => ![s.val, 0, 0]) S1x512x768.size inbO
    (by decide) (by decide) rfl (by decide) rfl

theorem slotQ_emb (o : ℕ) (hb) (x : S768x512.Idx) (B : Vec F S768x512 .f32) : repQ B ((slotQ o hb).view.emb x) = B x := by
  show repQ B ((Rect.unit (s := S3x768x512) ![o, 0, 0] S1x768x512.size hb).emb (Shape.reshapeEquiv squeezes_S1x768x512_S768x512.numel_eq x)) = B x
  rw [Shape.reshapeEquiv_cons_one]
  unfold repQ
  congr 1
  funext a
  match a with
  | ⟨0, _⟩ => exact Fin.ext (by simp [ix2]; rfl)
  | ⟨1, _⟩ => exact Fin.ext (by simp [ix2]; rfl)

theorem slotO_emb (o : ℕ) (hb) (x : S512x768.Idx) (B : Vec F S512x768 .f32) : repO B ((slotO o hb).view.emb x) = B x := by
  show repO B ((Rect.unit (s := S3x512x768) ![o, 0, 0] S1x512x768.size hb).emb (Shape.reshapeEquiv squeezes_S1x512x768_S512x768.numel_eq x)) = B x
  rw [Shape.reshapeEquiv_cons_one]
  unfold repO
  congr 1
  funext a
  match a with
  | ⟨0, _⟩ => exact Fin.ext (by simp [ix2]; rfl)
  | ⟨1, _⟩ => exact Fin.ext (by simp [ix2]; rfl)

/-- A slot of a buffer that holds `B` everywhere reads `B`. -/
theorem read_slotQ (o : ℕ) (hb) (B : Vec F S768x512 .f32) : (slotQ o hb).view.read (Elt F) (repQ B) = B :=
  funext fun x => slotQ_emb o hb x B

/-- A slot that a copy of `B` filled is a slot of the buffer that holds `B` everywhere. -/
theorem landedQ (c : Dev nD) (o : ℕ) (hb) (q : PosShare TreeShare) (fd : Buf (Elt F) ((slotQ o hb).view.loc (c : Thread nD τ))) (B : Vec F S768x512 .f32) :
    ((slotQ o hb).view.loc (c : Thread nD τ) ↦[(slotQ o hb).view.set]{q} (slotQ o hb).view.write (Elt F) fd B Finset.univ : sProp 𝕄)
      = (slotQ o hb).view.loc (c : Thread nD τ) ↦[(slotQ o hb).view.set]{q} repQ B := by
  refine pointsTo_congr fun i hi => ?_
  obtain ⟨x, -, rfl⟩ := Finset.mem_map.mp hi
  rw [View.write_emb_of_mem _ _ (Finset.mem_univ _), slotQ_emb]
  rfl

/-- What is read of slot `o` through the whole buffer, its unit axis dropped, is the block it holds. -/
theorem cast_slotQ (o : ℕ) (hb) (B : Vec F S768x512 .f32) :
    Idealize.ShloMosaic.shapeCast S768x512 (View.readAt (Elt F) bufQ.view (Rect.unit (s := S3x768x512) ![o, 0, 0] S1x768x512.size hb).toLoadRect (repQ B)) shapeCasts_S1x768x512_S768x512 = B :=
  funext fun x => slotQ_emb o hb x B

/-- A landing buffer at some contents is its three slots, each at some contents. -/
theorem splitQ (c : Dev nD) :
    (iprop(∃ f : Buf (Elt F) ((c : Thread nD τ).loc cc0_scratch0), ((c : Thread nD τ).loc cc0_scratch0) ↦{fullShare} f) : sProp 𝕄)
      ⊢ iprop((∃ f, (slotQ 0 inb_S3x768x512_S1x768x512_0_0_0).view.loc (c : Thread nD τ) ↦[(slotQ 0 inb_S3x768x512_S1x768x512_0_0_0).view.set]{fullShare} f)
        ∗ (∃ f, (slotQ 1 inb_S3x768x512_S1x768x512_1_0_0).view.loc (c : Thread nD τ) ↦[(slotQ 1 inb_S3x768x512_S1x768x512_1_0_0).view.set]{fullShare} f)
        ∗ (∃ f, (slotQ 2 inb_S3x768x512_S1x768x512_2_0_0).view.loc (c : Thread nD τ) ↦[(slotQ 2 inb_S3x768x512_S1x768x512_2_0_0).view.set]{fullShare} f)) :=
  Ring.slots3_split (ℓ := (c : Thread nD τ).loc cc0_scratch0) elemsQ elemsQ_disjoint elemsQ_cover _ _ _
    (fun _ => by rw [← slotQ_set 0]; rfl) (fun _ => by rw [← slotQ_set 1]; rfl) (fun _ => by rw [← slotQ_set 2]; rfl)

/-- The three slots, each at some contents, are the landing buffer at some contents. -/
theorem joinQ (c : Dev nD) :
    (iprop((∃ f, (slotQ 0 inb_S3x768x512_S1x768x512_0_0_0).view.loc (c : Thread nD τ) ↦[(slotQ 0 inb_S3x768x512_S1x768x512_0_0_0).view.set]{fullShare} f)
        ∗ (∃ f, (slotQ 1 inb_S3x768x512_S1x768x512_1_0_0).view.loc (c : Thread nD τ) ↦[(slotQ 1 inb_S3x768x512_S1x768x512_1_0_0).view.set]{fullShare} f)
        ∗ (∃ f, (slotQ 2 inb_S3x768x512_S1x768x512_2_0_0).view.loc (c : Thread nD τ) ↦[(slotQ 2 inb_S3x768x512_S1x768x512_2_0_0).view.set]{fullShare} f)) : sProp 𝕄)
      ⊢ iprop(∃ f : Buf (Elt F) ((c : Thread nD τ).loc cc0_scratch0), ((c : Thread nD τ).loc cc0_scratch0) ↦{fullShare} f) :=
  Ring.slots3_join (ℓ := (c : Thread nD τ).loc cc0_scratch0) elemsQ elemsQ_disjoint elemsQ_cover _ _ _
    (fun _ => by rw [← slotQ_set 0]; rfl) (fun _ => by rw [← slotQ_set 1]; rfl) (fun _ => by rw [← slotQ_set 2]; rfl)

/-- A slot of a buffer that holds `B` everywhere reads `B`. -/
theorem read_slotO (o : ℕ) (hb) (B : Vec F S512x768 .f32) : (slotO o hb).view.read (Elt F) (repO B) = B :=
  funext fun x => slotO_emb o hb x B

/-- A slot that a copy of `B` filled is a slot of the buffer that holds `B` everywhere. -/
theorem landedO (c : Dev nD) (o : ℕ) (hb) (q : PosShare TreeShare) (fd : Buf (Elt F) ((slotO o hb).view.loc (c : Thread nD τ))) (B : Vec F S512x768 .f32) :
    ((slotO o hb).view.loc (c : Thread nD τ) ↦[(slotO o hb).view.set]{q} (slotO o hb).view.write (Elt F) fd B Finset.univ : sProp 𝕄)
      = (slotO o hb).view.loc (c : Thread nD τ) ↦[(slotO o hb).view.set]{q} repO B := by
  refine pointsTo_congr fun i hi => ?_
  obtain ⟨x, -, rfl⟩ := Finset.mem_map.mp hi
  rw [View.write_emb_of_mem _ _ (Finset.mem_univ _), slotO_emb]
  rfl

/-- What is read of slot `o` through the whole buffer, its unit axis dropped, is the block it holds. -/
theorem cast_slotO (o : ℕ) (hb) (B : Vec F S512x768 .f32) :
    Idealize.ShloMosaic.shapeCast S512x768 (View.readAt (Elt F) bufO.view (Rect.unit (s := S3x512x768) ![o, 0, 0] S1x512x768.size hb).toLoadRect (repO B)) shapeCasts_S1x512x768_S512x768 = B :=
  funext fun x => slotO_emb o hb x B

/-- A landing buffer at some contents is its three slots, each at some contents. -/
theorem splitO (c : Dev nD) :
    (iprop(∃ f : Buf (Elt F) ((c : Thread nD τ).loc cc0_scratch1), ((c : Thread nD τ).loc cc0_scratch1) ↦{fullShare} f) : sProp 𝕄)
      ⊢ iprop((∃ f, (slotO 0 inb_S3x512x768_S1x512x768_0_0_0).view.loc (c : Thread nD τ) ↦[(slotO 0 inb_S3x512x768_S1x512x768_0_0_0).view.set]{fullShare} f)
        ∗ (∃ f, (slotO 1 inb_S3x512x768_S1x512x768_1_0_0).view.loc (c : Thread nD τ) ↦[(slotO 1 inb_S3x512x768_S1x512x768_1_0_0).view.set]{fullShare} f)
        ∗ (∃ f, (slotO 2 inb_S3x512x768_S1x512x768_2_0_0).view.loc (c : Thread nD τ) ↦[(slotO 2 inb_S3x512x768_S1x512x768_2_0_0).view.set]{fullShare} f)) :=
  Ring.slots3_split (ℓ := (c : Thread nD τ).loc cc0_scratch1) elemsO elemsO_disjoint elemsO_cover _ _ _
    (fun _ => by rw [← slotO_set 0]; rfl) (fun _ => by rw [← slotO_set 1]; rfl) (fun _ => by rw [← slotO_set 2]; rfl)

/-- The three slots, each at some contents, are the landing buffer at some contents. -/
theorem joinO (c : Dev nD) :
    (iprop((∃ f, (slotO 0 inb_S3x512x768_S1x512x768_0_0_0).view.loc (c : Thread nD τ) ↦[(slotO 0 inb_S3x512x768_S1x512x768_0_0_0).view.set]{fullShare} f)
        ∗ (∃ f, (slotO 1 inb_S3x512x768_S1x512x768_1_0_0).view.loc (c : Thread nD τ) ↦[(slotO 1 inb_S3x512x768_S1x512x768_1_0_0).view.set]{fullShare} f)
        ∗ (∃ f, (slotO 2 inb_S3x512x768_S1x512x768_2_0_0).view.loc (c : Thread nD τ) ↦[(slotO 2 inb_S3x512x768_S1x512x768_2_0_0).view.set]{fullShare} f)) : sProp 𝕄)
      ⊢ iprop(∃ f : Buf (Elt F) ((c : Thread nD τ).loc cc0_scratch1), ((c : Thread nD τ).loc cc0_scratch1) ↦{fullShare} f) :=
  Ring.slots3_join (ℓ := (c : Thread nD τ).loc cc0_scratch1) elemsO elemsO_disjoint elemsO_cover _ _ _
    (fun _ => by rw [← slotO_set 0]; rfl) (fun _ => by rw [← slotO_set 1]; rfl) (fun _ => by rw [← slotO_set 2]; rfl)

end Cert.KernelIdeal.Hand
-- ==== Proof.Proto.lean ====
/-
  The ring's protocol: for each semaphore who waits on it, who signals it or copies onto it, by how much, in what order,
  and what each landing hands over.

  Device `c` passes what it holds to its right neighbour `nxt c`.  Its own first weight block travels from its staging
  buffer into slot 0 of `nxt c`, and what lands in its slot `s` it passes on into slot `s + 1` of `nxt c`; the second
  weight's blocks travel the same way through the second landing buffer.  Before any copy, the devices meet at the
  barrier: `c` learns there that the slots of `nxt c` are free.  A copy's source is lent to it at half share, so that the
  sender may read it while the copy is in flight.
-/
module

public import proofs.«01_k».proof.Proof.Slots

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The pipeline's rounds, and this protocol's: its duties are named by truth values. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## The cells -/

/-- The body's own DMA semaphore `k`: 0, 1, 2 the first weight's sends, 3, 4, 5 its landings, 6, 7, 8 the second
    weight's sends, 9, 10, 11 its landings. -/
abbrev os (k : Fin 12) : DmaSem sig := ⟨6 + k.val, by have := k.isLt; show 6 + k.val < 18; omega⟩
/-- The same as semaphore locations. -/
abbrev osem (k : Fin 12) : SemLoc sig := .dma (os k)

/-- Device `c`'s barrier cell. -/
abbrev bar (c : Dev nD) : GSem nD τ sig := ((c : Thread nD τ), .reg barrier0)
/-- Device `c`'s own DMA cell `k`. -/
abbrev own (c : Dev nD) (k : Fin 12) : GSem nD τ sig := ((c : Thread nD τ), osem k)

/-- What a copy of a block of the first weight adds to its semaphores. -/
abbrev NQ : ℕ := (slotQ 0 inb_S3x768x512_S1x768x512_0_0_0).view.dmaCredit
/-- What a copy of a block of the second weight adds to its semaphores. -/
abbrev NO : ℕ := (slotO 0 inb_S3x512x768_S1x512x768_0_0_0).view.dmaCredit

theorem NQ_pos : 0 < NQ := View.dmaCredit_pos _ (by decide)
theorem NO_pos : 0 < NO := View.dmaCredit_pos _ (by decide)

/-- What a copy onto own cell `k` adds. -/
abbrev amt (k : Fin 12) : ℕ := if k.val < 6 then NQ else NO

theorem amt_pos (k : Fin 12) : 0 < amt k := by
  unfold amt; split
  · exact NQ_pos
  · exact NO_pos

/-! ## What is handed over -/

section Contents

variable (Wq : Dev nD → Vec F S768x512 .f32) (Wo : Dev nD → Vec F S512x768 .f32)

/-- Slot 0 of the first landing buffer of device `c`, holding block `B`. -/
abbrev ptQ0 (c : Dev nD) (q : PosShare TreeShare) (B : Vec F S768x512 .f32) : sProp 𝕄 :=
  (slotQ 0 inb_S3x768x512_S1x768x512_0_0_0).view.loc (c : Thread nD τ) ↦[(slotQ 0 inb_S3x768x512_S1x768x512_0_0_0).view.set]{q} repQ B
/-- Slot 1 of the first landing buffer of device `c`, holding block `B`. -/
abbrev ptQ1 (c : Dev nD) (q : PosShare TreeShare) (B : Vec F S768x512 .f32) : sProp 𝕄 :=
  (slotQ 1 inb_S3x768x512_S1x768x512_1_0_0).view.loc (c : Thread nD τ) ↦[(slotQ 1 inb_S3x768x512_S1x768x512_1_0_0).view.set]{q} repQ B
/-- Slot 2 of the first landing buffer of device `c`, holding block `B`. -/
abbrev ptQ2 (c : Dev nD) (q : PosShare TreeShare) (B : Vec F S768x512 .f32) : sProp 𝕄 :=
  (slotQ 2 inb_S3x768x512_S1x768x512_2_0_0).view.loc (c : Thread nD τ) ↦[(slotQ 2 inb_S3x768x512_S1x768x512_2_0_0).view.set]{q} repQ B
/-- Slot 0 of the second landing buffer of device `c`, holding block `B`. -/
abbrev ptO0 (c : Dev nD) (q : PosShare TreeShare) (B : Vec F S512x768 .f32) : sProp 𝕄 :=
  (slotO 0 inb_S3x512x768_S1x512x768_0_0_0).view.loc (c : Thread nD τ) ↦[(slotO 0 inb_S3x512x768_S1x512x768_0_0_0).view.set]{q} repO B
/-- Slot 1 of the second landing buffer of device `c`, holding block `B`. -/
abbrev ptO1 (c : Dev nD) (q : PosShare TreeShare) (B : Vec F S512x768 .f32) : sProp 𝕄 :=
  (slotO 1 inb_S3x512x768_S1x512x768_1_0_0).view.loc (c : Thread nD τ) ↦[(slotO 1 inb_S3x512x768_S1x512x768_1_0_0).view.set]{q} repO B
/-- Slot 2 of the second landing buffer of device `c`, holding block `B`. -/
abbrev ptO2 (c : Dev nD) (q : PosShare TreeShare) (B : Vec F S512x768 .f32) : sProp 𝕄 :=
  (slotO 2 inb_S3x512x768_S1x512x768_2_0_0).view.loc (c : Thread nD τ) ↦[(slotO 2 inb_S3x512x768_S1x512x768_2_0_0).view.set]{q} repO B
/-- The staging buffer of device `c`'s own block of the first weight. -/
abbrev ptWq (c : Dev nD) (q : PosShare TreeShare) (B : Vec F S768x512 .f32) : sProp 𝕄 :=
  (Memref.whole cc0_stg1_0).view.loc (c : Thread nD τ) ↦[(Memref.whole cc0_stg1_0).view.set]{q} B
/-- The staging buffer of device `c`'s own block of the second weight. -/
abbrev ptWo (c : Dev nD) (q : PosShare TreeShare) (B : Vec F S512x768 .f32) : sProp 𝕄 :=
  (Memref.whole cc0_stg4_0).view.loc (c : Thread nD τ) ↦[(Memref.whole cc0_stg4_0).view.set]{q} B

/-- A landing buffer of device `c`, whole, at contents not chosen. -/
abbrev anyBuf (c : Dev nD) (b : Ref sig .tc) : sProp 𝕄 :=
  iprop(∃ f : Buf (Elt F) ((c : Thread nD τ).loc b), ((c : Thread nD τ).loc b) ↦{fullShare} f)

/-- Paid to device `c`'s barrier cell by its right neighbour: the neighbour's two landing buffers, and that round 0 of
    its DMA cells is reached. -/
def barPay (c : Dev nD) : sProp 𝕄 :=
  iprop(anyBuf (nxt c) cc0_scratch0 ∗ anyBuf (nxt c) cc0_scratch1 ∗ bigSep Finset.univ fun k : Fin 12 => reached ER (own (nxt c) k) 0)

/-- Paid to device `c`'s DMA semaphore `n`: a send hands its source back at half share; a landing hands over the slot
    with the block that landed in it, the block of the device one, two or three places to the left. -/
def dmaPay (c : Dev nD) : ℕ → sProp 𝕄
  | 6 => ptWq c fullShare.left (Wq c)
  | 7 => ptQ0 c fullShare.left (Wq (prv c))
  | 8 => ptQ1 c fullShare.left (Wq (opp c))
  | 9 => ptQ0 c fullShare (Wq (prv c))
  | 10 => ptQ1 c fullShare (Wq (opp c))
  | 11 => ptQ2 c fullShare (Wq (nxt c))
  | 12 => ptWo c fullShare.left (Wo c)
  | 13 => ptO0 c fullShare.left (Wo (prv c))
  | 14 => ptO1 c fullShare.left (Wo (opp c))
  | 15 => ptO0 c fullShare (Wo (prv c))
  | 16 => ptO1 c fullShare (Wo (opp c))
  | 17 => ptO2 c fullShare (Wo (nxt c))
  | _ => iprop(emp)

/-- The schedule: in round 0 a barrier cell has two duties of one unit, the right neighbour's and the left neighbour's;
    each of the body's own DMA cells has one, the copy's; there are no later rounds. -/
def Rd : Rounds.Schedule (GSem nD τ sig) Bool 𝕄 where
  duties g r := if r = 0 ∧ g.1.2 = .tc then
      match g.2 with
      | .reg s => if s = barrier0 then {false, true} else ∅
      | .dma i => if 6 ≤ i.val then {true} else ∅
    else ∅
  unitless _ := False
  amount g _ _ := match g.2 with
    | .reg _ => 1
    | .dma i => if i.val < 12 then NQ else NO
  payload g _ d := match g.2 with
    | .reg _ => if d then barPay g.1.1 else iprop(emp)
    | .dma i => dmaPay Wq Wo g.1.1 i.val
  amount_pos g _ _ _ := by
    rcases g with ⟨t, s | i⟩
    · exact Nat.one_pos
    · show 0 < if i.val < 12 then NQ else NO
      split
      · exact NQ_pos
      · exact NO_pos

instance dmaPay_storable (c : Dev nD) (n : ℕ) : BI.Storable (upEmb : UEmb _ 𝕄) (dmaPay Wq Wo c n) := by
  unfold dmaPay
  split <;> infer_instance

instance barPay_storable (c : Dev nD) : BI.Storable (upEmb : UEmb _ 𝕄) (barPay (F := F) c) := by
  unfold barPay
  infer_instance

instance payload_storable (g : GSem nD τ sig) (r : ℕ) (d : Bool) :
    BI.Storable (upEmb : UEmb _ 𝕄) ((Rd Wq Wo).payload g r d) := by
  rcases g with ⟨t, s | i⟩
  · show BI.Storable upEmb (if d then barPay t.1 else iprop(emp))
    split <;> infer_instance
  · show BI.Storable upEmb (dmaPay Wq Wo t.1 i.val)
    infer_instance

/-! ## The schedule's entries -/

section Sched

variable (c : Dev nD) (k : Fin 12)

theorem duties_bar : (Rd Wq Wo).duties (bar c) 0 = {false, true} := by
  dsimp only [Rd]
  rw [if_pos ⟨rfl, rfl⟩, if_pos rfl]
theorem duties_own : (Rd Wq Wo).duties (own c k) 0 = {true} := by
  dsimp only [Rd]
  rw [if_pos ⟨rfl, rfl⟩, if_pos (Nat.le_add_right 6 k.val)]
theorem duties_later (g : GSem nD τ sig) : ∀ r, 1 ≤ r → (Rd Wq Wo).duties g r = ∅ :=
  fun r hr => if_neg fun h => by omega

theorem amount_bar (d : Bool) : (Rd Wq Wo).amount (bar c) 0 d = 1 := rfl
theorem amount_own (d : Bool) : (Rd Wq Wo).amount (own c k) 0 d = amt k := by
  show (if 6 + k.val < 12 then NQ else NO) = if k.val < 6 then NQ else NO
  by_cases h : k.val < 6
  · rw [if_pos h, if_pos (by omega)]
  · rw [if_neg h, if_neg (by omega)]

theorem expect_bar : (Rd Wq Wo).expect (bar c) 0 = 2 := by
  unfold Schedule.expect Schedule.amountOf
  rw [duties_bar]; rfl
theorem expect_own : (Rd Wq Wo).expect (own c k) 0 = amt k := by
  unfold Schedule.expect Schedule.amountOf
  rw [duties_own, Finset.sum_singleton, amount_own]

theorem rest_bar : bigSep ((Rd Wq Wo).duties (bar c) 0 \ ∅) (fun d => (Rd Wq Wo).payload (bar c) 0 d) = iprop(emp ∗ barPay c) := by
  rw [Finset.sdiff_empty, duties_bar, bigSep_insert (by decide), bigSep_singleton]; rfl
theorem rest_own : bigSep ((Rd Wq Wo).duties (own c k) 0 \ ∅) (fun d => (Rd Wq Wo).payload (own c k) 0 d)
    = dmaPay Wq Wo c (6 + k.val) := by
  rw [Finset.sdiff_empty, duties_own, bigSep_singleton]; rfl

end Sched

/-! ## What a device owes, and the levels -/

/-- The cells device `c` pays to besides its own, the last to be paid first in the list. -/
def due (c : Dev nD) : ℕ → GSem nD τ sig
  | 0 => own (nxt c) 11
  | 1 => own (nxt c) 5
  | 2 => own (nxt c) 10
  | 3 => own (nxt c) 4
  | 4 => own (nxt c) 9
  | 5 => own (nxt c) 3
  | 6 => bar (nxt c)
  | _ => bar (prv c)
/-- What it pays to each. -/
def dueAmt : ℕ → ℕ
  | 0 => amt 11
  | 1 => amt 5
  | 2 => amt 10
  | 3 => amt 4
  | 4 => amt 9
  | 5 => amt 3
  | _ => 1

/-- What device `c` owes when `n` of its payments are still to be made. -/
def owe (c : Dev nD) : ℕ → CellTallies nD τ sig Unit
  | 0 => 0
  | n + 1 => owe c n + tallyAt (due c n) () (dueAmt n)

/-- The levels are given to the TensorCores' cells. -/
def L (g : GSem nD τ sig) : Finset Unit := if g.1.2 = .tc then {()} else ∅

/-- The level of a cell: the barrier 1, the landings in slot `s` `2 + s`, everything else 0. -/
def lvS : SemLoc sig → ℕ
  | .reg _ => 1
  | .dma i => match i.val with
    | 9 => 2
    | 10 => 3
    | 11 => 4
    | 15 => 2
    | 16 => 3
    | 17 => 4
    | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem due_tc (c : Dev nD) (n : ℕ) : (due c n).1.2 = .tc := by
  unfold due; split <;> rfl

/-- Only the cells still to be paid are owed to. -/
theorem owe_pos (c : Dev nD) (n : ℕ) (g : GSem nD τ sig) (u : Unit) (h : 0 < owe c n g u) : ∃ i < n, g = due c i := by
  induction n with
  | zero => exact absurd h (Nat.lt_irrefl 0)
  | succ n ih =>
    have e : owe c (n + 1) g u = owe c n g u + tallyAt (due c n) () (dueAmt n) g u := rfl
    rw [e, tallyAt_apply] at h
    by_cases hg : g = due c n ∧ u = ()
    · exact ⟨n, Nat.lt_succ_self n, hg.1⟩
    · rw [if_neg hg, Nat.add_zero] at h
      obtain ⟨i, hi, e⟩ := ih h
      exact ⟨i, Nat.lt_succ_of_lt hi, e⟩

/-- The levels of the cells a device pays to, the last to be paid first. -/
def dueLv : ℕ → ℕ
  | 0 => 4
  | 1 => 4
  | 2 => 3
  | 3 => 3
  | 4 => 2
  | 5 => 2
  | _ => 1

theorem due_lv (c : Dev nD) (n : ℕ) : lvS (due c n).2 = dueLv n := by
  rcases n with _ | _ | _ | _ | _ | _ | _ | n <;> rfl

/-- A device may wait on a cell whose level is below those of the cells it still has to pay. -/
theorem mayWait (c : Dev nD) (sm : SemLoc sig) (n : ℕ) (h : ∀ i < n, lvS sm < dueLv i) :
    (levAts L lv : sProp 𝕄) ⊢ MayWait (c : Thread nD τ) sm () (owe c n) :=
  MayOwe.of_cut (L := L) (lev := lv) (lvS sm)
    (fun p hp => by rw [Finset.mem_singleton.mp hp, L_tc]; exact Finset.mem_singleton_self _)
    (fun g u hg => by
      obtain ⟨i, -, rfl⟩ := owe_pos c n g u hg
      unfold L; rw [if_pos (due_tc c i)]; exact Finset.mem_singleton_self _)
    (fun p hp => by rw [Finset.mem_singleton.mp hp]; exact le_refl _)
    (fun g u hg => by
      obtain ⟨i, hi, rfl⟩ := owe_pos c n g u hg
      exact (h i hi).trans_eq (due_lv c i).symm)

/-! ## The ghost state -/

/-- Where device `c`'s copy that pays own cell `k` adds: a send to `c` itself, a landing to its right neighbour. -/
def tgt (c : Dev nD) (k : Fin 12) : Dev nD := if k.val < 3 ∨ (6 ≤ k.val ∧ k.val < 9) then c else nxt c

/-- The invariants device `c` opens. -/
def invs (K : GSem nD τ sig → ℕ) (c : Dev nD) : sProp 𝕄 :=
  iprop(cellInv ER (Rd Wq Wo) (K (bar c)) (bar c) ∗ cellInv ER (Rd Wq Wo) (K (bar (prv c))) (bar (prv c))
    ∗ cellInv ER (Rd Wq Wo) (K (bar (nxt c))) (bar (nxt c))
    ∗ (bigSep Finset.univ fun k : Fin 12 => cellInv ER (Rd Wq Wo) (K (own c k)) (own c k))
    ∗ bigSep Finset.univ fun k : Fin 12 => cellInv ER (Rd Wq Wo) (K (own (nxt c) k)) (own (nxt c) k))

instance invs_persistent (K : GSem nD τ sig → ℕ) (c : Dev nD) : BI.Persistent (invs Wq Wo K c) := by unfold invs; infer_instance

/-- The tokens of the duties device `c` pays. -/
def toks (c : Dev nD) : sProp 𝕄 :=
  iprop(dutyTok ER (bar (prv c)) 0 true ∗ dutyTok ER (bar (nxt c)) 0 false
    ∗ bigSep Finset.univ fun k : Fin 12 => dutyTok ER (own (tgt c k) k) 0 true)

/-- What device `c` carries from the launch: the invariants' names, its position on its barrier cell, the right to open
    its own DMA cells, that round 0 of its neighbours' barrier cells is reached, and the tokens it pays with. -/
def ghost (K : GSem nD τ sig → ℕ) (c : Dev nD) : sProp 𝕄 :=
  iprop(invs Wq Wo K c ∗ atPos ER (bar c) 0 ∅ 0 ∗ (bigSep Finset.univ fun k : Fin 12 => openTok ER (own c k))
    ∗ (reached ER (bar (prv c)) 0 ∗ reached ER (bar (nxt c)) 0) ∗ toks c)

/-- The same once its own DMA cells are open. -/
def opened (K : GSem nD τ sig → ℕ) (c : Dev nD) : sProp 𝕄 :=
  iprop(invs Wq Wo K c ∗ atPos ER (bar c) 0 ∅ 0 ∗ (bigSep Finset.univ fun k : Fin 12 => iprop(atPos ER (own c k) 0 ∅ 0 ∗ reached ER (own c k) 0))
    ∗ (reached ER (bar (prv c)) 0 ∗ reached ER (bar (nxt c)) 0) ∗ toks c)

/-- The credit device `c` waits with at the cells others pay. -/
def creds (c : Dev nD) : sProp 𝕄 :=
  iprop(cred (tallyAt (bar c) () 2) ∗ cred (tallyAt (own c 3) () (amt 3)) ∗ cred (tallyAt (own c 9) () (amt 9))
    ∗ cred (tallyAt (own c 4) () (amt 4)) ∗ cred (tallyAt (own c 10) () (amt 10)) ∗ cred (tallyAt (own c 5) () (amt 5)) ∗ cred (tallyAt (own c 11) () (amt 11)))

theorem open_cells (K : GSem nD τ sig → ℕ) (c : Dev nD) :
    iprop(ghost Wq Wo K c ∗ bigSep Finset.univ fun k : Fin 12 => semVal (own c k) 0) ⊢ (|={Set.univ}=> opened Wq Wo K c : sProp 𝕄) := by
  unfold ghost opened
  iintro ⟨⟨#Hinv, Hb, Ho, Hr, Ht⟩, Hs⟩
  ihave #Hc : (bigSep Finset.univ fun k : Fin 12 => cellInv ER (Rd Wq Wo) (K (own c k)) (own c k)) $$ []
  · unfold invs
    icases Hinv with ⟨-, -, -, #Hc, -⟩
    iexact Hc
  imod (Rounds.cells_open ER (Rd Wq Wo) Finset.univ (own c) (fun k => K (own c k)) (fun k _ => Set.mem_univ _)) $$ [Ho Hs] with Hd
  · isplitl [Ho]
    · rw [bigSep_sep']
      isplitr; · iexact Hc
      iexact Ho
    · iexact Hs
  imodintro
  isplitr; · iexact Hinv
  isplitl [Hb]; · iexact Hb
  isplitl [Hd]; · iexact Hd
  isplitl [Hr]; · iexact Hr
  iexact Ht

end Contents

end Cert.KernelIdeal.Hand
-- ==== Proof.Steps.lean ====
/-
  The protocol's steps: the two signals, the wait at the barrier, a copy to the right neighbour and a wait on one of the
  body's own DMA semaphores, each as a rule about what the device holds.
-/
module

public import proofs.«01_k».proof.Proof.Proto

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernels' variants: none. -/
abbrev 𝒱₀ : Variants := Variants.none

/-! ## The semaphores the body names -/

theorem sem0 : ((cc0_scratch4.slice (Rect.unit (s := S3) ![0] ![1] inb_S3_S1_0)).squeeze S_ squeezes_S1_S_).sem = os 0 := rfl
theorem sem1 : ((cc0_scratch4.slice (Rect.unit (s := S3) ![1] ![1] inb_S3_S1_1)).squeeze S_ squeezes_S1_S_).sem = os 1 := rfl
theorem sem2 : ((cc0_scratch4.slice (Rect.unit (s := S3) ![2] ![1] inb_S3_S1_2)).squeeze S_ squeezes_S1_S_).sem = os 2 := rfl
theorem sem3 : ((cc0_scratch5.slice (Rect.unit (s := S3) ![0] ![1] inb_S3_S1_0)).squeeze S_ squeezes_S1_S_).sem = os 3 := rfl
theorem sem4 : ((cc0_scratch5.slice (Rect.unit (s := S3) ![1] ![1] inb_S3_S1_1)).squeeze S_ squeezes_S1_S_).sem = os 4 := rfl
theorem sem5 : ((cc0_scratch5.slice (Rect.unit (s := S3) ![2] ![1] inb_S3_S1_2)).squeeze S_ squeezes_S1_S_).sem = os 5 := rfl
theorem sem6 : ((cc0_scratch6.slice (Rect.unit (s := S3) ![0] ![1] inb_S3_S1_0)).squeeze S_ squeezes_S1_S_).sem = os 6 := rfl
theorem sem7 : ((cc0_scratch6.slice (Rect.unit (s := S3) ![1] ![1] inb_S3_S1_1)).squeeze S_ squeezes_S1_S_).sem = os 7 := rfl
theorem sem8 : ((cc0_scratch6.slice (Rect.unit (s := S3) ![2] ![1] inb_S3_S1_2)).squeeze S_ squeezes_S1_S_).sem = os 8 := rfl
theorem sem9 : ((cc0_scratch7.slice (Rect.unit (s := S3) ![0] ![1] inb_S3_S1_0)).squeeze S_ squeezes_S1_S_).sem = os 9 := rfl
theorem sem10 : ((cc0_scratch7.slice (Rect.unit (s := S3) ![1] ![1] inb_S3_S1_1)).squeeze S_ squeezes_S1_S_).sem = os 10 := rfl
theorem sem11 : ((cc0_scratch7.slice (Rect.unit (s := S3) ![2] ![1] inb_S3_S1_2)).squeeze S_ squeezes_S1_S_).sem = os 11 := rfl

/-! ## The devices the body names -/

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = nxt c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)

theorem nxt_prv (c : Dev nD) : nxt (prv c) = c := by revert c; decide
theorem prv_nxt (c : Dev nD) : prv (nxt c) = c := by revert c; decide
theorem opp_nxt (c : Dev nD) : opp (nxt c) = prv c := by revert c; decide
theorem nxt_nxt (c : Dev nD) : nxt (nxt c) = opp c := by revert c; decide

variable (Wq : Dev nD → Vec F S768x512 .f32) (Wo : Dev nD → Vec F S512x768 .f32) (K : GSem nD τ sig → ℕ) (c : Dev nD)

/-- What device `c` still owes, its waits not named. -/
def owing (n : ℕ) : sProp 𝕄 := iprop(∃ W, owes (c : Thread nD τ) (owe c n) W)

/-! ## The invariants by name -/

theorem pick (Φ : Fin 12 → sProp 𝕄) (k : Fin 12) : bigSep Finset.univ Φ ⊢ Φ k := bigSep_elim (Finset.mem_univ k)

theorem inv_bar : invs Wq Wo K c ⊢ cellInv ER (Rd Wq Wo) (K (bar c)) (bar c) := by
  unfold invs; iintro ⟨#H, -⟩; iexact H
theorem inv_prv : invs Wq Wo K c ⊢ cellInv ER (Rd Wq Wo) (K (bar (prv c))) (bar (prv c)) := by
  unfold invs; iintro ⟨-, #H, -⟩; iexact H
theorem inv_nxt : invs Wq Wo K c ⊢ cellInv ER (Rd Wq Wo) (K (bar (nxt c))) (bar (nxt c)) := by
  unfold invs; iintro ⟨-, -, #H, -⟩; iexact H
theorem inv_own (k : Fin 12) : invs Wq Wo K c ⊢ cellInv ER (Rd Wq Wo) (K (own c k)) (own c k) := by
  unfold invs; iintro ⟨-, -, -, #H, -⟩
  iapply (pick (fun k : Fin 12 => cellInv ER (Rd Wq Wo) (K (own c k)) (own c k)) k); iexact H
theorem inv_ownN (k : Fin 12) : invs Wq Wo K c ⊢ cellInv ER (Rd Wq Wo) (K (own (nxt c) k)) (own (nxt c) k) := by
  unfold invs; iintro ⟨-, -, -, -, #H⟩
  iapply (pick (fun k : Fin 12 => cellInv ER (Rd Wq Wo) (K (own (nxt c) k)) (own (nxt c) k)) k); iexact H

section Steps

/-- The signal to the left neighbour hands it this device's landing buffers. -/
theorem step_signal_prv {α : Type} {Q : α → sProp 𝕄} {k : PUnit → Prog (TpuEff nD τ sig (Elt F) Λ₀ .tc) α} (n : Dev nD) (hn : n = prv c) :
    iprop(invs Wq Wo K c ∗ owing c 8 ∗ dutyTok ER (bar (prv c)) 0 true
        ∗ (anyBuf c cc0_scratch0 ∗ anyBuf c cc0_scratch1 ∗ bigSep Finset.univ fun k : Fin 12 => reached ER (own c k) 0)
        ∗ reached ER (bar (prv c)) 0)
      ⊢ iprop((owing c 7 -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barrier0 1) k) Q) := by
  subst hn
  iintro ⟨#HI, HO, Ht, Hp, Hr⟩ Hk
  unfold owing
  icases HO with ⟨%W, HO⟩
  iapply (Rounds.wp_signal 𝒱₀ ER (Rd Wq Wo) (c : Thread nD τ) none (dst := (prv c : Thread nD τ)) (κ := K (bar (prv c)))
      (d := true) (by rw [duties_bar]; decide) (amount_bar Wq Wo (prv c) true) () (owe c 7) rfl) $$ [HO Ht Hp Hr]
  · isplitr; · iapply (inv_prv Wq Wo K c); iexact HI
    isplitl [HO]; · iexact HO
    isplitl [Ht]; · iexact Ht
    isplitl [Hp]
    · iapply (Entails.of_eq (show (iprop(anyBuf c cc0_scratch0 ∗ anyBuf c cc0_scratch1 ∗ bigSep Finset.univ fun k : Fin 12 => reached ER (own c k) 0) : sProp 𝕄)
        = (Rd Wq Wo).payload (bar (prv c)) 0 true from by
          show _ = barPay (prv c)
          unfold barPay; rw [nxt_prv])); iexact Hp
    iexact Hr
  iintro HO
  iapply Hk
  iexists W; iexact HO

/-- The signal to the right neighbour hands over nothing. -/
theorem step_signal_nxt {α : Type} {Q : α → sProp 𝕄} {k : PUnit → Prog (TpuEff nD τ sig (Elt F) Λ₀ .tc) α} (n : Dev nD) (hn : n = nxt c) :
    iprop(invs Wq Wo K c ∗ owing c 7 ∗ dutyTok ER (bar (nxt c)) 0 false ∗ reached ER (bar (nxt c)) 0)
      ⊢ iprop((owing c 6 -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barrier0 1) k) Q) := by
  subst hn
  iintro ⟨#HI, HO, Ht, Hr⟩ Hk
  unfold owing
  icases HO with ⟨%W, HO⟩
  iapply (Rounds.wp_signal 𝒱₀ ER (Rd Wq Wo) (c : Thread nD τ) none (dst := (nxt c : Thread nD τ)) (κ := K (bar (nxt c)))
      (d := false) (by rw [duties_bar]; decide) (amount_bar Wq Wo (nxt c) false) () (owe c 6) rfl) $$ [HO Ht Hr]
  · isplitr; · iapply (inv_nxt Wq Wo K c); iexact HI
    isplitl [HO]; · iexact HO
    isplitl [Ht]; · iexact Ht
    isplitr
    · iapply (Entails.of_eq (show (iprop(emp) : sProp 𝕄) = (Rd Wq Wo).payload (bar (nxt c)) 0 false from rfl)); iempintro
    iexact Hr
  iintro HO
  iapply Hk
  iexists W; iexact HO

/-- The wait at the barrier brings the right neighbour's landing buffers. -/
theorem step_wait_bar {α : Type} {Q : α → sProp 𝕄} {k : PUnit → Prog (TpuEff nD τ sig (Elt F) Λ₀ .tc) α} :
    iprop(invs Wq Wo K c ∗ cred (tallyAt (bar c) () 2) ∗ owing c 6 ∗ levAts L lv ∗ atPos ER (bar c) 0 ∅ 0)
      ⊢ iprop(((owing c 6 ∗ atPos ER (bar c) 1 ∅ 0 ∗ barPay c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barrier0 2) k) Q) := by
  iintro ⟨#HI, Hc, HO, #Hl, Hat⟩ Hk
  unfold owing
  icases HO with ⟨%W, HO⟩
  iapply (Rounds.wp_wait_rest_token 𝒱₀ ER (Rd Wq Wo) (c : Thread nD τ) none (κ := K (bar c))
      (wpE_semWait_eq 𝒱₀ (c : Thread nD τ) none Set.univ) (Set.mem_univ _) () (O := owe c 6) (W := W) (R := 0) (m := 0) (T := ∅)
      (by rw [expect_bar])) $$ [Hc HO Hat]
  · isplitr; · iapply (inv_bar Wq Wo K c); iexact HI
    isplitl [Hc]; · iexact Hc
    isplitl [HO]; · iexact HO
    isplitr
    · iapply (mayWait c (.reg barrier0) 6 (by decide)); iexact Hl
    iexact Hat
  iintro ⟨HO, Hat, -, Hp⟩
  iapply Hk
  isplitl [HO]; · iexists _; iexact HO
  isplitl [Hat]; · iexact Hat
  ihave Hp1 := (Entails.of_eq (rest_bar Wq Wo c)) $$ Hp
  icases Hp1 with ⟨-, Hp2⟩
  iexact Hp2

/-- A wait on own DMA cell `j` brings what the copy onto it handed over. -/
theorem step_wait {α : Type} {Q : α → sProp 𝕄} {k : PUnit → Prog (TpuEff nD τ sig (Elt F) Λ₀ .tc) α}
    (j : Fin 12) (n : ℕ) (hl : ∀ i < n, lvS (osem j) < dueLv i) {s : DmaSem sig} (hs : s = os j)
    {sps spd : Space} {ss sd : Shape} {es ed : EltTy} {src : Memref sig .tc sps ss es} {dst : Memref sig .tc spd sd ed}
    {hsrc : src.view.WordExact} {hdst : dst.view.WordExact} (hN : dst.view.dmaCredit = amt j) :
    iprop(invs Wq Wo K c ∗ cred (tallyAt (own c j) () (amt j)) ∗ owing c n ∗ levAts L lv ∗ atPos ER (own c j) 0 ∅ 0)
      ⊢ iprop(((owing c n ∗ atPos ER (own c j) 1 ∅ 0 ∗ dmaPay Wq Wo c (6 + j.val)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  iintro ⟨#HI, Hc, HO, #Hl, Hat⟩ Hk
  unfold owing
  icases HO with ⟨%W, HO⟩
  iapply (Rounds.wp_wait_rest_token 𝒱₀ ER (Rd Wq Wo) (c : Thread nD τ) none (κ := K (own c j))
      (wpE_waitDma2_eq 𝒱₀ (c : Thread nD τ) none Set.univ) (Set.mem_univ _) () (O := owe c n) (W := W) (R := 0) (m := 0) (T := ∅)
      (by rw [expect_own, Nat.zero_add, hN])) $$ [Hc HO Hat]
  · isplitr; · iapply (inv_own Wq Wo K c j); iexact HI
    isplitl [Hc]; · rw [hN]; iexact Hc
    isplitl [HO]; · iexact HO
    isplitr; · iapply (mayWait c (osem j) n hl); iexact Hl
    iexact Hat
  iintro ⟨HO, Hat, -, Hp⟩
  iapply Hk
  isplitl [HO]; · iexists _; iexact HO
  isplitl [Hat]; · iexact Hat
  iapply (Entails.of_eq (rest_own Wq Wo c j)); iexact Hp

/-- A copy to the right neighbour: its own send cell `i` gets the source's share back, the neighbour's landing cell `j`
    the slot with what was copied. -/
theorem step_send {α : Type} {Q : α → sProp 𝕄} {k : PUnit → Prog (TpuEff nD τ sig (Elt F) Λ₀ .tc) α}
    (i j : Fin 12) (n : ℕ) (hdue : due c n = own (nxt c) j) (hamt : dueAmt n = amt j) (hij : amt i = amt j)
    (d : Dev nD) (hd : d = nxt c) {s : Shape} {e : EltTy}
    {src : Memref sig .tc .vmem s e} {dst : Memref sig .tc .vmem s e}
    {hsc : (dst : Memref sig (Dev.tc d : Thread nD τ).2.kind .vmem s e).view.ref.isScScratch = false}
    {hsrc : src.view.WordExact} {hdst : dst.view.WordExact}
    {hsem : DmaTarget.Typed .vmem (.dma (os j)) (.remote (Dev.tc d : Thread nD τ) dst (.dma (os i)) hsc)}
    (hN : dst.view.dmaCredit = amt j) (q : PosShare TreeShare)
    (fs : Buf (Elt F) (src.view.loc (c : Thread nD τ))) (fd : Buf (Elt F) (dst.view.loc (nxt c : Thread nD τ)))
    (hpay₁ : (src.view.loc (c : Thread nD τ) ↦[src.view.set]{q} fs : sProp 𝕄) ⊢ dmaPay Wq Wo c (6 + i.val))
    (hpay₂ : (dst.view.loc (nxt c : Thread nD τ) ↦[dst.view.set]{fullShare} (dst.view.write (Elt F) fd (src.view.read (Elt F) fs) Finset.univ) : sProp 𝕄)
      ⊢ dmaPay Wq Wo (nxt c) (6 + j.val)) :
    iprop(invs Wq Wo K c ∗ (src.view.loc (c : Thread nD τ) ↦[src.view.set]{q} fs)
        ∗ (dst.view.loc (nxt c : Thread nD τ) ↦[dst.view.set]{fullShare} fd)
        ∗ owing c (n + 1) ∗ dutyTok ER (own c i) 0 true ∗ reached ER (own c i) 0
        ∗ dutyTok ER (own (nxt c) j) 0 true ∗ reached ER (own (nxt c) j) 0)
      ⊢ iprop(((cred (tallyAt (own c i) () (amt i)) ∗ owing c n) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma (os i)) hsc) (.dma (os j)) hsrc hdst hsem) k) Q) := by
  subst hd
  iintro ⟨#HI, Hs, Hd, HO, Ht, Hr, Htn, Hrn⟩ Hk
  unfold owing
  icases HO with ⟨%W, HO⟩
  iapply (Rounds.wp_send_pointsTo 𝒱₀ ER (Rd Wq Wo) (c : Thread nD τ) none (c' := (nxt c : Thread nD τ)) (κ₁ := K (own c i)) (κ₂ := K (own (nxt c) j))
    (r₁ := 0) (r₂ := 0) (d₁ := true) (d₂ := true) (q := q) (fs := fs) (fd := fd) (sS := .dma (os i)) (sem := .dma (os j))
    (by rw [duties_own]; exact Finset.mem_singleton_self _) (by rw [duties_own]; exact Finset.mem_singleton_self _)
    () () (amt j) hN ((amount_own Wq Wo c i true).trans hij) (amount_own Wq Wo (nxt c) j true) (owe c n)
    (by show owe c n + tallyAt (due c n) () (dueAmt n) = _; rw [hdue, hamt]) (W := W) hpay₁ hpay₂) $$ [Hs Hd HO Ht Hr Htn Hrn]
  · isplitr; · iapply (inv_own Wq Wo K c i); iexact HI
    isplitr; · iapply (inv_ownN Wq Wo K c j); iexact HI
    isplitl [Hs]; · iexact Hs
    isplitl [Hd]; · iexact Hd
    isplitl [HO]; · iexact HO
    isplitl [Ht]; · iexact Ht
    isplitl [Hr]; · iexact Hr
    isplitl [Htn]; · iexact Htn
    iexact Hrn
  iintro ⟨Hc, HO⟩
  iapply Hk
  isplitl [Hc]; · rw [hij]; iexact Hc
  iexists W; iexact HO

end Steps

end Cert.KernelIdeal.Hand
-- ==== Proof.Local.lean ====
/-
  The body's steps on a device's own buffers: a load or a store of a whole buffer, a load of a slot of a landing buffer,
  and each of the four loops, each as a rule about what the device holds.
-/
module

public import proofs.«01_k».proof.Proof.Steps

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A buffer of device `c`, seen whole, at contents that read `X`. -/
abbrev holds (c : Dev nD) {s : Shape} {e : EltTy} (m : Memref sig .tc .vmem s e) (hm : m.IsWhole) (q : PosShare TreeShare)
    (X : Vec F s e) : sProp 𝕄 := m.view.loc (c : Thread nD τ) ↦[m.view.set]{q} hm.unread X

section Whole

variable (c : Dev nD) {s : Shape} {e : EltTy} {m : Memref sig .tc .vmem s e} (hm : m.IsWhole)

/-- A load of a whole buffer reads what it holds. -/
theorem step_load {q : PosShare TreeShare} {X : Vec F s e} {off : Fin s.rank → ℕ} (h0 : off = fun _ => 0)
    {inb : ∀ a, off a + s.size a ≤ s.size a} {hl : m.view.LoadsAt (Rect.unit off s.size inb).toLoadRect} {α : Type}
    {Q : α → sProp 𝕄} {k : Vec F s e → Prog (TpuEff nD τ sig (Elt F) Λ₀ .tc) α} :
    holds c m hm q X
      ⊢ iprop((holds c m hm q X -∗ wp frame (wpE (defs₀ (F := F)) 𝒱₀ (c : Thread nD τ) none) Set.univ (k X) Q)
          -∗ wp frame (wpE (defs₀ (F := F)) 𝒱₀ (c : Thread nD τ) none) Set.univ (.op (.load m (Rect.unit off s.size inb).toLoadRect hl) k) Q) := by
  have h := wp_load (defs := defs₀ (F := F)) 𝒱₀ (c : Thread nD τ) none (Γ := .empty) Set.univ (Q := Q) (m := m)
    (r := (Rect.unit off s.size inb).toLoadRect) (hl := hl) (k := k) (q := q) (f := hm.unread X) (S := m.view.set)
    (View.setOn_subset_set _ _)
  rw [View.readAt_eq_ld, hm.read_unread, View.ld_unit_zero h0 inb] at h
  exact h

/-- A store of a whole buffer leaves what is stored. -/
theorem step_store {X w : Vec F s e} {off : Fin s.rank → ℕ} (h0 : off = fun _ => 0)
    {inb : ∀ a, off a + s.size a ≤ s.size a} {hx : (m.access (Rect.unit off s.size inb)).Stores Finset.univ}
    {hm' : (Finset.univ : Finset (Rect.unit off s.size inb).shape.Idx) = Finset.univ ∨ ∀ a, (Rect.unit off s.size inb).stride a = 1} {α : Type}
    {Q : α → sProp 𝕄} {k : PUnit → Prog (TpuEff nD τ sig (Elt F) Λ₀ .tc) α} :
    holds c m hm fullShare X
      ⊢ iprop((holds c m hm fullShare w -∗ wp frame (wpE (defs₀ (F := F)) 𝒱₀ (c : Thread nD τ) none) Set.univ (k ⟨⟩) Q)
          -∗ wp frame (wpE (defs₀ (F := F)) 𝒱₀ (c : Thread nD τ) none) Set.univ
              (.op (.store m (Rect.unit off s.size inb) w Finset.univ hx hm') k) Q) := by
  have h := wp_store (defs := defs₀ (F := F)) 𝒱₀ (c : Thread nD τ) none (Γ := .empty) Set.univ (Q := Q) (m := m)
    (r := Rect.unit off s.size inb) (w := w) (Mk := Finset.univ) (hx := hx) (hm := hm') (k := k) (f := hm.unread X) (S := m.view.set)
    (by rw [View.setOn_univ, View.set_slice]; exact View.setOn_subset_set _ _)
  have e : (m.access (Rect.unit off s.size inb)).write (Elt F) (hm.unread X) w Finset.univ = hm.unread w := by
    refine hm.eq_unread ?_
    exact funext fun y => View.read_writes_cons_unit_of_mem m.view (hm.unread X) inb w [] y y h0 fun a => (Nat.zero_add _).symm
  rw [e] at h
  exact h

end Whole

/-- What a buffer given whole holds is what it reads. -/
theorem unread_whole {b : Ref sig .tc} (X : b.ty.shape.Idx → Elt F b.ty.elt) : (Memref.isWhole_whole b).unread X = X :=
  (Memref.isWhole_whole b).read_unread X

/-! ## A slot of a landing buffer, read through the whole buffer -/

/-- Block `B` with a leading unit axis. -/
def unslotQ (B : Vec F S768x512 .f32) : Vec F S1x768x512 .f32 := fun y => B (ix2 (y 1) (y 2))
/-- Block `B` with a leading unit axis. -/
def unslotO (B : Vec F S512x768 .f32) : Vec F S1x512x768 .f32 := fun y => B (ix2 (y 1) (y 2))

theorem readAt_slotQ (o : ℕ) (hb) (B : Vec F S768x512 .f32) :
    View.readAt (Elt F) bufQ.view (Rect.unit (s := S3x768x512) ![o, 0, 0] S1x768x512.size hb).toLoadRect (repQ B) = unslotQ B := by
  funext x
  refine congrArg B (funext fun a => ?_)
  match a with
  | ⟨0, _⟩ => exact Fin.ext (by show 0 + 1 * (x 1).val = (x 1).val; omega)
  | ⟨1, _⟩ => exact Fin.ext (by show 0 + 1 * (x 2).val = (x 2).val; omega)

theorem readAt_slotO (o : ℕ) (hb) (B : Vec F S512x768 .f32) :
    View.readAt (Elt F) bufO.view (Rect.unit (s := S3x512x768) ![o, 0, 0] S1x512x768.size hb).toLoadRect (repO B) = unslotO B := by
  funext x
  refine congrArg B (funext fun a => ?_)
  match a with
  | ⟨0, _⟩ => exact Fin.ext (by show 0 + 1 * (x 1).val = (x 1).val; omega)
  | ⟨1, _⟩ => exact Fin.ext (by show 0 + 1 * (x 2).val = (x 2).val; omega)

section Slot

variable (c : Dev nD) (o : ℕ) {q : PosShare TreeShare} {α : Type}

/-- A load of slot `o` of the first landing buffer, at any share of it. -/
theorem step_loadQ {hb} {B : Vec F S768x512 .f32} {hl : bufQ.view.LoadsAt (Rect.unit (s := S3x768x512) ![o, 0, 0] S1x768x512.size hb).toLoadRect}
    {Q : α → sProp 𝕄} {k : Vec F S1x768x512 .f32 → Prog (TpuEff nD τ sig (Elt F) Λ₀ .tc) α} :
    ((slotQ o hb).view.loc (c : Thread nD τ) ↦[(slotQ o hb).view.set]{q} repQ B : sProp 𝕄)
      ⊢ iprop((((slotQ o hb).view.loc (c : Thread nD τ) ↦[(slotQ o hb).view.set]{q} repQ B)
            -∗ wp frame (wpE (defs₀ (F := F)) 𝒱₀ (c : Thread nD τ) none) Set.univ (k (unslotQ B)) Q)
          -∗ wp frame (wpE (defs₀ (F := F)) 𝒱₀ (c : Thread nD τ) none) Set.univ
              (.op (.load bufQ (Rect.unit (s := S3x768x512) ![o, 0, 0] S1x768x512.size hb).toLoadRect hl) k) Q) := by
  have h := wp_load (defs := defs₀ (F := F)) 𝒱₀ (c : Thread nD τ) none (Γ := .empty) Set.univ (Q := Q) (m := bufQ)
    (r := (Rect.unit (s := S3x768x512) ![o, 0, 0] S1x768x512.size hb).toLoadRect) (hl := hl) (k := k) (q := q) (f := repQ B)
    (S := (slotQ o hb).view.set)
    (by rw [show (slotQ o hb).view.set = (bufQ.view.slice (Rect.unit (s := S3x768x512) ![o, 0, 0] S1x768x512.size hb)).set from View.set_reshape _ _, View.set_slice]; exact fun _ h => h)
  rw [readAt_slotQ] at h
  exact h

/-- A load of slot `o` of the second landing buffer, at any share of it. -/
theorem step_loadO {hb} {B : Vec F S512x768 .f32} {hl : bufO.view.LoadsAt (Rect.unit (s := S3x512x768) ![o, 0, 0] S1x512x768.size hb).toLoadRect}
    {Q : α → sProp 𝕄} {k : Vec F S1x512x768 .f32 → Prog (TpuEff nD τ sig (Elt F) Λ₀ .tc) α} :
    ((slotO o hb).view.loc (c : Thread nD τ) ↦[(slotO o hb).view.set]{q} repO B : sProp 𝕄)
      ⊢ iprop((((slotO o hb).view.loc (c : Thread nD τ) ↦[(slotO o hb).view.set]{q} repO B)
            -∗ wp frame (wpE (defs₀ (F := F)) 𝒱₀ (c : Thread nD τ) none) Set.univ (k (unslotO B)) Q)
          -∗ wp frame (wpE (defs₀ (F := F)) 𝒱₀ (c : Thread nD τ) none) Set.univ
              (.op (.load bufO (Rect.unit (s := S3x512x768) ![o, 0, 0] S1x512x768.size hb).toLoadRect hl) k) Q) := by
  have h := wp_load (defs := defs₀ (F := F)) 𝒱₀ (c : Thread nD τ) none (Γ := .empty) Set.univ (Q := Q) (m := bufO)
    (r := (Rect.unit (s := S3x512x768) ![o, 0, 0] S1x512x768.size hb).toLoadRect) (hl := hl) (k := k) (q := q) (f := repO B)
    (S := (slotO o hb).view.set)
    (by rw [show (slotO o hb).view.set = (bufO.view.slice (Rect.unit (s := S3x512x768) ![o, 0, 0] S1x512x768.size hb)).set from View.set_reshape _ _, View.set_slice]; exact fun _ h => h)
  rw [readAt_slotO] at h
  exact h

end Slot

/-! ## The loops -/

section Loops

variable (c : Dev nD)
  {arg0 : Memref sig .tc .vmem S1024x768 .f32} {harg0 : arg0.IsWhole} {arg1 : Memref sig .tc .vmem S768x512 .f32} {harg1 : arg1.IsWhole}
  {arg2 : Memref sig .tc .vmem S4x1024x512 .f32} {harg2 : arg2.IsWhole} {arg3 : Memref sig .tc .vmem S4x1024x512 .f32} {harg3 : arg3.IsWhole}
  {arg4 : Memref sig .tc .vmem S512x768 .f32} {harg4 : arg4.IsWhole} {arg5 : Memref sig .tc .vmem S1024x768 .f32} {harg5 : arg5.IsWhole}
  {arg6 : Memref sig .tc .vmem S3x768x512 .f32} {harg6 : arg6.IsWhole} {arg7 : Memref sig .tc .vmem S3x512x768 .f32} {harg7 : arg7.IsWhole}
  {arg8 : Memref sig .tc .vmem S1024x512 .f32} {harg8 : arg8.IsWhole} {arg9 : Memref sig .tc .vmem S1024x512 .f32} {harg9 : arg9.IsWhole}
  {arg10 arg11 arg12 arg13 : DmaSems sig S3} (q : Vec F S1024x512 .f32) (k v : Vec F S4x1024x512 .f32)

/-- What a loop needs: the queries, the keys and the values, and the context scratch at some contents. -/
theorem loop_start (j : Fin 4) (A : Vec F S1024x512 .f32) :
    iprop(holds c arg2 harg2 fullShare k ∗ holds c arg3 harg3 fullShare v ∗ holds c arg8 harg8 fullShare q ∗ holds c arg9 harg9 fullShare A)
      ⊢ loopAt (F := F) (U := UU) c arg2 harg2 arg3 harg3 arg8 harg8 arg9 q k v j 0 := by
  unfold loopAt
  iintro ⟨H2, H3, H8, H9⟩
  isplitl [H2]; · iexact H2
  isplitl [H3]; · iexact H3
  isplitl [H8]; · iexact H8
  iexists _
  isplitl [H9]; · iexact H9
  ipureintro
  exact Filled.zero _ _ _

/-- What it leaves: the context scratch holds the context array. -/
theorem loop_end (j : Fin 4) :
    loopAt (F := F) (U := UU) c arg2 harg2 arg3 harg3 arg8 harg8 arg9 q k v j 8
      ⊢ iprop(holds c arg2 harg2 fullShare k ∗ holds c arg3 harg3 fullShare v ∗ holds c arg8 harg8 fullShare q
          ∗ holds c arg9 harg9 fullShare (attend q k v j)) := by
  unfold loopAt
  iintro ⟨H2, H3, H8, ⟨%f, H9, %hf⟩⟩
  isplitl [H2]; · iexact H2
  isplitl [H3]; · iexact H3
  isplitl [H8]; · iexact H8
  rw [harg9.eq_unread hf.eq]
  iexact H9

/-- The first loop computes the context of one head group. -/
theorem step_loop1 {α : Type} {Q : α → sProp 𝕄} {kk : Unit → Prog (TpuEff nD τ sig (Elt F) Λ₀ .tc) α} {A : Vec F S1024x512 .f32} {v2 v6 : BitVec 32} :
    iprop(holds c arg2 harg2 fullShare k ∗ holds c arg3 harg3 fullShare v ∗ holds c arg8 harg8 fullShare q ∗ holds c arg9 harg9 fullShare A)
      ⊢ iprop(((holds c arg2 harg2 fullShare k ∗ holds c arg3 harg3 fullShare v ∗ holds c arg8 harg8 fullShare q
            ∗ holds c arg9 harg9 fullShare (attend q k v (c)))
            -∗ wp frame (wpE (defs₀ (F := F)) 𝒱₀ (c : Thread nD τ) none) Set.univ (kk ⟨⟩) Q)
          -∗ wp frame (wpE (defs₀ (F := F)) 𝒱₀ (c : Thread nD τ) none) Set.univ
              (Scf.Loop.for k0_t1_loop k0_t1_ok ⟨⟩ (k0_t1_body (F := F) arg0 harg0 arg1 harg1 arg2 harg2 arg3 harg3 arg4 harg4 arg5 harg5
                arg6 harg6 arg7 harg7 arg8 harg8 arg9 harg9 arg10 arg11 arg12 arg13 c v2 v6) >>= kk) Q) := by
  iintro H Hk
  iapply (Scf.wp_for_bind frame (wpE (defs₀ (F := F)) 𝒱₀ (c : Thread nD τ) none) Set.univ k0_t1_loop.lb k0_t1_loop.ub k0_t1_loop.st k0_t1_ok
    (⟨⟩ : Unit) _ (fun n _ => loopAt (F := F) (U := UU) c arg2 harg2 arg3 harg3 arg8 harg8 arg9 q k v (c) n)
    (fun n _ => trip1 𝒱₀ c none Set.univ arg0 harg0 arg1 harg1 arg2 harg2 arg3 harg3 arg4 harg4 arg5 harg5 arg6 harg6 arg7 harg7 arg8 harg8
      arg9 harg9 arg10 arg11 arg12 arg13 q k v v2 v6 n)) $$ [H]
  · iapply (loop_start c q k v (c) A); iexact H
  iintro %acc H
  iapply Hk
  iapply (loop_end c q k v (c))
  iexact H

/-- The second loop computes the context of one head group. -/
theorem step_loop2 {α : Type} {Q : α → sProp 𝕄} {kk : Unit → Prog (TpuEff nD τ sig (Elt F) Λ₀ .tc) α} {A : Vec F S1024x512 .f32} {v6 v75 : BitVec 32} {v77 : FVec F S768x512 .f32} {v78 : Vec F S1x512x768 .f32} :
    iprop(holds c arg2 harg2 fullShare k ∗ holds c arg3 harg3 fullShare v ∗ holds c arg8 harg8 fullShare q ∗ holds c arg9 harg9 fullShare A)
      ⊢ iprop(((holds c arg2 harg2 fullShare k ∗ holds c arg3 harg3 fullShare v ∗ holds c arg8 harg8 fullShare q
            ∗ holds c arg9 harg9 fullShare (attend q k v (prv c)))
            -∗ wp frame (wpE (defs₀ (F := F)) 𝒱₀ (c : Thread nD τ) none) Set.univ (kk ⟨⟩) Q)
          -∗ wp frame (wpE (defs₀ (F := F)) 𝒱₀ (c : Thread nD τ) none) Set.univ
              (Scf.Loop.for k0_t2_loop k0_t2_ok ⟨⟩ (k0_t2_body (F := F) arg0 harg0 arg1 harg1 arg2 harg2 arg3 harg3 arg4 harg4 arg5 harg5
                arg6 harg6 arg7 harg7 arg8 harg8 arg9 harg9 arg10 arg11 arg12 arg13 c v6 v75 v77 v78) >>= kk) Q) := by
  iintro H Hk
  iapply (Scf.wp_for_bind frame (wpE (defs₀ (F := F)) 𝒱₀ (c : Thread nD τ) none) Set.univ k0_t2_loop.lb k0_t2_loop.ub k0_t2_loop.st k0_t2_ok
    (⟨⟩ : Unit) _ (fun n _ => loopAt (F := F) (U := UU) c arg2 harg2 arg3 harg3 arg8 harg8 arg9 q k v (prv c) n)
    (fun n _ => trip2 𝒱₀ c none Set.univ arg0 harg0 arg1 harg1 arg2 harg2 arg3 harg3 arg4 harg4 arg5 harg5 arg6 harg6 arg7 harg7 arg8 harg8
      arg9 harg9 arg10 arg11 arg12 arg13 q k v v6 v75 v77 v78 n)) $$ [H]
  · iapply (loop_start c q k v (prv c) A); iexact H
  iintro %acc H
  iapply Hk
  iapply (loop_end c q k v (prv c))
  iexact H

/-- The third loop computes the context of one head group. -/
theorem step_loop3 {α : Type} {Q : α → sProp 𝕄} {kk : Unit → Prog (TpuEff nD τ sig (Elt F) Λ₀ .tc) α} {A : Vec F S1024x512 .f32} {v6 v130 : BitVec 32} :
    iprop(holds c arg2 harg2 fullShare k ∗ holds c arg3 harg3 fullShare v ∗ holds c arg8 harg8 fullShare q ∗ holds c arg9 harg9 fullShare A)
      ⊢ iprop(((holds c arg2 harg2 fullShare k ∗ holds c arg3 harg3 fullShare v ∗ holds c arg8 harg8 fullShare q
            ∗ holds c arg9 harg9 fullShare (attend q k v (opp c)))
            -∗ wp frame (wpE (defs₀ (F := F)) 𝒱₀ (c : Thread nD τ) none) Set.univ (kk ⟨⟩) Q)
          -∗ wp frame (wpE (defs₀ (F := F)) 𝒱₀ (c : Thread nD τ) none) Set.univ
              (Scf.Loop.for k0_t3_loop k0_t3_ok ⟨⟩ (k0_t3_body (F := F) arg0 harg0 arg1 harg1 arg2 harg2 arg3 harg3 arg4 harg4 arg5 harg5
                arg6 harg6 arg7 harg7 arg8 harg8 arg9 harg9 arg10 arg11 arg12 arg13 c v6 v130) >>= kk) Q) := by
  iintro H Hk
  iapply (Scf.wp_for_bind frame (wpE (defs₀ (F := F)) 𝒱₀ (c : Thread nD τ) none) Set.univ k0_t3_loop.lb k0_t3_loop.ub k0_t3_loop.st k0_t3_ok
    (⟨⟩ : Unit) _ (fun n _ => loopAt (F := F) (U := UU) c arg2 harg2 arg3 harg3 arg8 harg8 arg9 q k v (opp c) n)
    (fun n _ => trip3 𝒱₀ c none Set.univ arg0 harg0 arg1 harg1 arg2 harg2 arg3 harg3 arg4 harg4 arg5 harg5 arg6 harg6 arg7 harg7 arg8 harg8
      arg9 harg9 arg10 arg11 arg12 arg13 q k v v6 v130 n)) $$ [H]
  · iapply (loop_start c q k v (opp c) A); iexact H
  iintro %acc H
  iapply Hk
  iapply (loop_end c q k v (opp c))
  iexact H

/-- The fourth loop computes the context of one head group. -/
theorem step_loop4 {α : Type} {Q : α → sProp 𝕄} {kk : Unit → Prog (TpuEff nD τ sig (Elt F) Λ₀ .tc) α} {A : Vec F S1024x512 .f32} {v2 v6 v165 : BitVec 32} :
    iprop(holds c arg2 harg2 fullShare k ∗ holds c arg3 harg3 fullShare v ∗ holds c arg8 harg8 fullShare q ∗ holds c arg9 harg9 fullShare A)
      ⊢ iprop(((holds c arg2 harg2 fullShare k ∗ holds c arg3 harg3 fullShare v ∗ holds c arg8 harg8 fullShare q
            ∗ holds c arg9 harg9 fullShare (attend q k v (nxt c)))
            -∗ wp frame (wpE (defs₀ (F := F)) 𝒱₀ (c : Thread nD τ) none) Set.univ (kk ⟨⟩) Q)
          -∗ wp frame (wpE (defs₀ (F := F)) 𝒱₀ (c : Thread nD τ) none) Set.univ
              (Scf.Loop.for k0_t4_loop k0_t4_ok ⟨⟩ (k0_t4_body (F := F) arg0 harg0 arg1 harg1 arg2 harg2 arg3 harg3 arg4 harg4 arg5 harg5
                arg6 harg6 arg7 harg7 arg8 harg8 arg9 harg9 arg10 arg11 arg12 arg13 c v2 v6 v165) >>= kk) Q) := by
  iintro H Hk
  iapply (Scf.wp_for_bind frame (wpE (defs₀ (F := F)) 𝒱₀ (c : Thread nD τ) none) Set.univ k0_t4_loop.lb k0_t4_loop.ub k0_t4_loop.st k0_t4_ok
    (⟨⟩ : Unit) _ (fun n _ => loopAt (F := F) (U := UU) c arg2 harg2 arg3 harg3 arg8 harg8 arg9 q k v (nxt c) n)
    (fun n _ => trip4 𝒱₀ c none Set.univ arg0 harg0 arg1 harg1 arg2 harg2 arg3 harg3 arg4 harg4 arg5 harg5 arg6 harg6 arg7 harg7 arg8 harg8
      arg9 harg9 arg10 arg11 arg12 arg13 q k v v2 v6 v165 n)) $$ [H]
  · iapply (loop_start c q k v (nxt c) A); iexact H
  iintro %acc H
  iapply Hk
  iapply (loop_end c q k v (nxt c))
  iexact H

end Loops

end Cert.KernelIdeal.Hand
-- ==== Proof.Body.lean ====
/-
  The body of one device, run from what it holds at its start to what it leaves: the value of its output block as a
  term over the blocks of the two weights in the order in which they reach it.
-/
module

public import proofs.«01_k».proof.Proof.Local

@[expose] public section

set_option maxRecDepth 65536
set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem twelve (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-! ## The values -/

section Values

variable (x : Vec F S1024x768 .f32) (kg vg : Vec F S4x1024x512 .f32)
  (Wq : Dev nD → Vec F S768x512 .f32) (Wo : Dev nD → Vec F S512x768 .f32) (c : Dev nD)

/-- The context of the device's own head group, and the output after it. -/
def ctx1 : Vec F S1024x512 .f32 := attend (k0_pay61 (Wq c) x) kg vg c
def out1 : Vec F S1024x768 .f32 := k0_pay63 (Wo c) (ctx1 x kg vg Wq c)
/-- The same for the head group of the device one place to the left, added. -/
def ctx2 : Vec F S1024x512 .f32 := attend (k0_pay65 (k0_pay64 (unslotQ (Wq (prv c)))) x) kg vg (prv c)
def out2 : Vec F S1024x768 .f32 := k0_pay67 (unslotO (Wo (prv c))) (ctx2 x kg vg Wq c) (out1 x kg vg Wq Wo c)
/-- The same for the head group of the device two places to the left, added. -/
def ctx3 : Vec F S1024x512 .f32 := attend (k0_pay68 (unslotQ (Wq (opp c))) x) kg vg (opp c)
def out3 : Vec F S1024x768 .f32 := k0_pay70 (unslotO (Wo (opp c))) (ctx3 x kg vg Wq c) (out2 x kg vg Wq Wo c)
/-- The same for the head group of the device three places to the left, added: the output block. -/
def ctx4 : Vec F S1024x512 .f32 := attend (k0_pay71 (unslotQ (Wq (nxt c))) x) kg vg (nxt c)
def out4 : Vec F S1024x768 .f32 := k0_pay73 (unslotO (Wo (nxt c))) (ctx4 x kg vg Wq c) (out3 x kg vg Wq Wo c)

end Values

/-! ## The run -/

section Run

variable (x : Vec F S1024x768 .f32) (kg vg : Vec F S4x1024x512 .f32)
  (Wq : Dev nD → Vec F S768x512 .f32) (Wo : Dev nD → Vec F S512x768 .f32) (K : GSem nD τ sig → ℕ) (c : Dev nD)

/-- The device's staging buffers, the output's at `o`. -/
def staged (o : Vec F S1024x768 .f32) : sProp 𝕄 :=
  iprop(holds c (Memref.whole cc0_stg0_0) (Memref.isWhole_whole _) fullShare x
    ∗ holds c (Memref.whole cc0_stg1_0) (Memref.isWhole_whole _) fullShare (Wq c)
    ∗ holds c (Memref.whole cc0_stg2_0) (Memref.isWhole_whole _) fullShare kg
    ∗ holds c (Memref.whole cc0_stg3_0) (Memref.isWhole_whole _) fullShare vg
    ∗ holds c (Memref.whole cc0_stg4_0) (Memref.isWhole_whole _) fullShare (Wo c)
    ∗ holds c (Memref.whole cc0_stg5_0) (Memref.isWhole_whole _) fullShare o)

/-- The two scratch buffers that stay on the device. -/
def scratches : sProp 𝕄 :=
  iprop((∃ f, holds (F := F) c (Memref.whole cc0_scratch2) (Memref.isWhole_whole _) fullShare f)
    ∗ ∃ f, holds (F := F) c (Memref.whole cc0_scratch3) (Memref.isWhole_whole _) fullShare f)

/-- A buffer at half shares, and back. -/
theorem halves {s : Shape} {e : EltTy} (m : Memref sig .tc .vmem s e) (f : Buf (Elt F) (m.view.loc (c : Thread nD τ))) :
    (m.view.loc (c : Thread nD τ) ↦[m.view.set]{fullShare} f : sProp 𝕄)
      = iprop((m.view.loc (c : Thread nD τ) ↦[m.view.set]{fullShare.left} f) ∗ (m.view.loc (c : Thread nD τ) ↦[m.view.set]{fullShare.right} f)) :=
  Entails.antisymm (pointsTo_share (PosShare.mem_left_op_right fullShare)).1 (pointsTo_share (PosShare.mem_left_op_right fullShare)).2

/-- The share of the first weight's staging buffer that a copy borrows, and the one kept. -/
theorem splitWq (B : Vec F S768x512 .f32) : holds c (Memref.whole cc0_stg1_0) (Memref.isWhole_whole _) fullShare B
    = iprop(ptWq c fullShare.left B ∗ holds c (Memref.whole cc0_stg1_0) (Memref.isWhole_whole _) fullShare.right B) := by
  unfold holds ptWq
  rw [show (Memref.isWhole_whole cc0_stg1_0).unread (Val := Elt F) B = B from unread_whole (b := cc0_stg1_0) B]
  exact halves c _ _
/-- The same for the second weight. -/
theorem splitWo (B : Vec F S512x768 .f32) : holds c (Memref.whole cc0_stg4_0) (Memref.isWhole_whole _) fullShare B
    = iprop(ptWo c fullShare.left B ∗ holds c (Memref.whole cc0_stg4_0) (Memref.isWhole_whole _) fullShare.right B) := by
  unfold holds ptWo
  rw [show (Memref.isWhole_whole cc0_stg4_0).unread (Val := Elt F) B = B from unread_whole (b := cc0_stg4_0) B]
  exact halves c _ _

theorem zero2 : (![0, 0] : Fin 2 → ℕ) = fun _ => 0 := by decide

/-- What lands in slot 0 of the right neighbour. -/
theorem sentQ0 (f : Buf (Elt F) ((slotQ 0 inb_S3x768x512_S1x768x512_0_0_0).view.loc (nxt c : Thread nD τ))) :
    ((slotQ 0 inb_S3x768x512_S1x768x512_0_0_0).view.loc (nxt c : Thread nD τ) ↦[(slotQ 0 inb_S3x768x512_S1x768x512_0_0_0).view.set]{fullShare} (slotQ 0 inb_S3x768x512_S1x768x512_0_0_0).view.write (Elt F) f ((Memref.whole cc0_stg1_0).view.read (Elt F) (Wq c)) Finset.univ : sProp 𝕄)
      ⊢ dmaPay Wq Wo (nxt c) 9 := by
  rw [show (((Memref.whole cc0_stg1_0).view.read (Elt F) (Wq c)) : Vec F S768x512 .f32) = Wq c from rfl, landedQ]
  show _ ⊢ ptQ0 (nxt c) fullShare (Wq (prv (nxt c)))
  rw [prv_nxt]

/-- What lands in slot 0 of the right neighbour. -/
theorem sentO0 (f : Buf (Elt F) ((slotO 0 inb_S3x512x768_S1x512x768_0_0_0).view.loc (nxt c : Thread nD τ))) :
    ((slotO 0 inb_S3x512x768_S1x512x768_0_0_0).view.loc (nxt c : Thread nD τ) ↦[(slotO 0 inb_S3x512x768_S1x512x768_0_0_0).view.set]{fullShare} (slotO 0 inb_S3x512x768_S1x512x768_0_0_0).view.write (Elt F) f ((Memref.whole cc0_stg4_0).view.read (Elt F) (Wo c)) Finset.univ : sProp 𝕄)
      ⊢ dmaPay Wq Wo (nxt c) 15 := by
  rw [show (((Memref.whole cc0_stg4_0).view.read (Elt F) (Wo c)) : Vec F S512x768 .f32) = Wo c from rfl, landedO]
  show _ ⊢ ptO0 (nxt c) fullShare (Wo (prv (nxt c)))
  rw [prv_nxt]

/-- What lands in slot 1 of the right neighbour. -/
theorem sentQ1 (f : Buf (Elt F) ((slotQ 1 inb_S3x768x512_S1x768x512_1_0_0).view.loc (nxt c : Thread nD τ))) :
    ((slotQ 1 inb_S3x768x512_S1x768x512_1_0_0).view.loc (nxt c : Thread nD τ) ↦[(slotQ 1 inb_S3x768x512_S1x768x512_1_0_0).view.set]{fullShare} (slotQ 1 inb_S3x768x512_S1x768x512_1_0_0).view.write (Elt F) f ((slotQ 0 inb_S3x768x512_S1x768x512_0_0_0).view.read (Elt F) (repQ (Wq (prv c)))) Finset.univ : sProp 𝕄)
      ⊢ dmaPay Wq Wo (nxt c) 10 := by
  rw [read_slotQ, landedQ]
  show _ ⊢ ptQ1 (nxt c) fullShare (Wq (opp (nxt c)))
  rw [opp_nxt]

/-- What lands in slot 1 of the right neighbour. -/
theorem sentO1 (f : Buf (Elt F) ((slotO 1 inb_S3x512x768_S1x512x768_1_0_0).view.loc (nxt c : Thread nD τ))) :
    ((slotO 1 inb_S3x512x768_S1x512x768_1_0_0).view.loc (nxt c : Thread nD τ) ↦[(slotO 1 inb_S3x512x768_S1x512x768_1_0_0).view.set]{fullShare} (slotO 1 inb_S3x512x768_S1x512x768_1_0_0).view.write (Elt F) f ((slotO 0 inb_S3x512x768_S1x512x768_0_0_0).view.read (Elt F) (repO (Wo (prv c)))) Finset.univ : sProp 𝕄)
      ⊢ dmaPay Wq Wo (nxt c) 16 := by
  rw [read_slotO, landedO]
  show _ ⊢ ptO1 (nxt c) fullShare (Wo (opp (nxt c)))
  rw [opp_nxt]

/-- What lands in slot 2 of the right neighbour. -/
theorem sentQ2 (f : Buf (Elt F) ((slotQ 2 inb_S3x768x512_S1x768x512_2_0_0).view.loc (nxt c : Thread nD τ))) :
    ((slotQ 2 inb_S3x768x512_S1x768x512_2_0_0).view.loc (nxt c : Thread nD τ) ↦[(slotQ 2 inb_S3x768x512_S1x768x512_2_0_0).view.set]{fullShare} (slotQ 2 inb_S3x768x512_S1x768x512_2_0_0).view.write (Elt F) f ((slotQ 1 inb_S3x768x512_S1x768x512_1_0_0).view.read (Elt F) (repQ (Wq (opp c)))) Finset.univ : sProp 𝕄)
      ⊢ dmaPay Wq Wo (nxt c) 11 := by
  rw [read_slotQ, landedQ]
  show _ ⊢ ptQ2 (nxt c) fullShare (Wq (nxt (nxt c)))
  rw [nxt_nxt]

/-- What lands in slot 2 of the right neighbour. -/
theorem sentO2 (f : Buf (Elt F) ((slotO 2 inb_S3x512x768_S1x512x768_2_0_0).view.loc (nxt c : Thread nD τ))) :
    ((slotO 2 inb_S3x512x768_S1x512x768_2_0_0).view.loc (nxt c : Thread nD τ) ↦[(slotO 2 inb_S3x512x768_S1x512x768_2_0_0).view.set]{fullShare} (slotO 2 inb_S3x512x768_S1x512x768_2_0_0).view.write (Elt F) f ((slotO 1 inb_S3x512x768_S1x512x768_1_0_0).view.read (Elt F) (repO (Wo (opp c)))) Finset.univ : sProp 𝕄)
      ⊢ dmaPay Wq Wo (nxt c) 17 := by
  rw [read_slotO, landedO]
  show _ ⊢ ptO2 (nxt c) fullShare (Wo (nxt (nxt c)))
  rw [nxt_nxt]

theorem body_run (o : Vec F S1024x768 .f32) (Kt : PUnit → sProp 𝕄) :
    iprop((opened Wq Wo K c ∗ creds c ∗ levAts L lv ∗ owing c 8 ∗ anyBuf c cc0_scratch0 ∗ anyBuf c cc0_scratch1 ∗ scratches c
          ∗ staged x kg vg Wq Wo c o)
        ∗ ((invs Wq Wo K c ∗ atPos ER (bar c) 1 ∅ 0 ∗ (bigSep Finset.univ fun k : Fin 12 => atPos ER (own c k) 1 ∅ 0) ∗ owing c 0
            ∗ anyBuf c cc0_scratch0 ∗ anyBuf c cc0_scratch1 ∗ scratches c ∗ staged x kg vg Wq Wo c (out4 x kg vg Wq Wo c)) -∗ Kt ⟨⟩))
      ⊢ wp frame (wpE (defs₀ (F := F)) 𝒱₀ (c : Thread nD τ) none) Set.univ
          (cc0__body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  simp only [cc0__body_eq_skeleton]; unfold cc0__body_skel
  simp only [k0_part21_eq_skeleton, k0_part22_eq_skeleton, k0_part23_eq_skeleton, k0_part24_eq_skeleton, k0_part25_eq_skeleton,
    k0_part26_eq_skeleton, k0_part27_eq_skeleton, k0_part28_eq_skeleton]
  unfold k0_part21_skel k0_part22_skel k0_part23_skel k0_part24_skel k0_part25_skel k0_part26_skel k0_part27_skel k0_part28_skel
  simp only [semSignalWord, semWaitWord, Prog.lift, Prog.bind_op, Prog.bind_ret, Prog.pure_eq_ret, Prog.bind_assoc, wp_deviceId]
  simp only [sem0, sem1, sem2, sem3, sem4, sem5, sem6, sem7, sem8, sem9, sem10, sem11]
  unfold opened creds toks staged scratches
  simp only [twelve]
  iintro ⟨⟨⟨#HI, Hbar, ⟨⟨Ha0, #Hr0⟩, ⟨Ha1, #Hr1⟩, ⟨Ha2, #Hr2⟩, ⟨Ha3, #Hr3⟩, ⟨Ha4, #Hr4⟩, ⟨Ha5, #Hr5⟩, ⟨Ha6, #Hr6⟩, ⟨Ha7, #Hr7⟩, ⟨Ha8, #Hr8⟩, ⟨Ha9, #Hr9⟩, ⟨Ha10, #Hr10⟩, ⟨Ha11, #Hr11⟩⟩, ⟨#HrP, #HrN⟩, HtP, HtN, Ht0, Ht1, Ht2, Ht3, Ht4, Ht5, Ht6, Ht7, Ht8, Ht9, Ht10, Ht11⟩, ⟨HcB, Hc3, Hc9, Hc4, Hc10, Hc5, Hc11⟩, #Hlev, HO, Hs0, Hs1, ⟨⟨%A8, H8⟩, ⟨%A9, H9⟩⟩, H0, H1, H2, H3, H4, H5⟩, Hk⟩
  iapply (step_signal_prv Wq Wo K c _ (dev1_eq c)) $$ [HO HtP Hs0 Hs1]
  · isplitr; · iexact HI
    isplitl [HO]; · iexact HO
    isplitl [HtP]; · iexact HtP
    isplitl [Hs0 Hs1]
    · isplitl [Hs0]; · iexact Hs0
      isplitl [Hs1]; · iexact Hs1
      rw [twelve]
      isplitr; · iexact Hr0
      isplitr; · iexact Hr1
      isplitr; · iexact Hr2
      isplitr; · iexact Hr3
      isplitr; · iexact Hr4
      isplitr; · iexact Hr5
      isplitr; · iexact Hr6
      isplitr; · iexact Hr7
      isplitr; · iexact Hr8
      isplitr; · iexact Hr9
      isplitr; · iexact Hr10
      iexact Hr11
    iexact HrP
  iintro HO
  iapply (step_signal_nxt Wq Wo K c _ (dev2_eq c)) $$ [HO HtN]
  · isplitr; · iexact HI
    isplitl [HO]; · iexact HO
    isplitl [HtN]; · iexact HtN
    iexact HrN
  iintro HO
  iapply (step_wait_bar Wq Wo K c) $$ [HcB HO Hbar]
  · isplitr; · iexact HI
    isplitl [HcB]; · iexact HcB
    isplitl [HO]; · iexact HO
    isplitr; · iexact Hlev
    iexact Hbar
  iintro ⟨HO, Hbar, Hp⟩
  unfold barPay
  simp only [twelve]
  icases Hp with ⟨Hn0, Hn1, #Hn0r, #Hn1r, #Hn2r, #Hn3r, #Hn4r, #Hn5r, #Hn6r, #Hn7r, #Hn8r, #Hn9r, #Hn10r, #Hn11r⟩
  ihave Hn0' := (splitQ (nxt c)) $$ Hn0
  icases Hn0' with ⟨⟨%g0, Hd0⟩, ⟨%g1, Hd1⟩, ⟨%g2, Hd2⟩⟩
  ihave Hn1' := (splitO (nxt c)) $$ Hn1
  icases Hn1' with ⟨⟨%p0, He0⟩, ⟨%p1, He1⟩, ⟨%p2, He2⟩⟩
  ihave H1' := (Entails.of_eq (splitWq c (Wq c))) $$ H1
  icases H1' with ⟨H1l, H1⟩
  ihave H4' := (Entails.of_eq (splitWo c (Wo c))) $$ H4
  icases H4' with ⟨H4l, H4⟩
  iapply (step_send Wq Wo K c 0 3 5 rfl rfl rfl _ (dev3_eq c) (dst := slotQ 0 inb_S3x768x512_S1x768x512_0_0_0) (src := Memref.whole cc0_stg1_0) rfl fullShare.left (Wq c) g0 .rfl (sentQ0 Wq Wo c g0)) $$ [H1l Hd0 HO Ht0 Ht3]
  · isplitr; · iexact HI
    isplitl [H1l]; · iexact H1l
    isplitl [Hd0]; · iexact Hd0
    isplitl [HO]; · iexact HO
    isplitl [Ht0]; · iexact Ht0
    isplitr; · iexact Hr0
    isplitl [Ht3]; · iexact Ht3
    iexact Hn3r
  iintro ⟨Hc0, HO⟩
  iapply (step_send Wq Wo K c 6 9 4 rfl rfl rfl _ (dev4_eq c) (dst := slotO 0 inb_S3x512x768_S1x512x768_0_0_0) (src := Memref.whole cc0_stg4_0) rfl fullShare.left (Wo c) p0 .rfl (sentO0 Wq Wo c p0)) $$ [H4l He0 HO Ht6 Ht9]
  · isplitr; · iexact HI
    isplitl [H4l]; · iexact H4l
    isplitl [He0]; · iexact He0
    isplitl [HO]; · iexact HO
    isplitl [Ht6]; · iexact Ht6
    isplitr; · iexact Hr6
    isplitl [Ht9]; · iexact Ht9
    iexact Hn9r
  iintro ⟨Hc6, HO⟩
  iapply (step_load c (Memref.isWhole_whole _) zero2) $$ [H1]
  · iexact H1
  iintro H1
  iapply (step_load c (Memref.isWhole_whole _) zero2) $$ [H4]
  · iexact H4
  iintro H4
  iapply (step_load c (Memref.isWhole_whole _) zero2) $$ [H0]
  · iexact H0
  iintro H0
  iapply (step_load c (Memref.isWhole_whole _) zero2) $$ [H8]
  · iexact H8
  iintro H8
  iapply (step_store c (Memref.isWhole_whole _) zero2) $$ [H8]
  · iexact H8
  iintro H8
  iapply (step_loop1 c _ kg vg) $$ [H2 H3 H8 H9]
  · isplitl [H2]; · iexact H2
    isplitl [H3]; · iexact H3
    isplitl [H8]; · iexact H8
    iexact H9
  iintro ⟨H2, H3, H8, H9⟩
  iapply (step_load c (Memref.isWhole_whole _) zero2) $$ [H9]
  · iexact H9
  iintro H9
  iapply (step_load c (Memref.isWhole_whole _) zero2) $$ [H5]
  · iexact H5
  iintro H5
  iapply (step_store c (Memref.isWhole_whole _) zero2) $$ [H5]
  · iexact H5
  iintro H5
  iapply (step_wait Wq Wo K c 3 4 (src := Memref.whole cc0_stg1_0) (dst := slotQ 0 inb_S3x768x512_S1x768x512_0_0_0) (by decide) rfl rfl) $$ [Hc3 HO Ha3]
  · isplitr; · iexact HI
    isplitl [Hc3]; · iexact Hc3
    isplitl [HO]; · iexact HO
    isplitr; · iexact Hlev
    iexact Ha3
  iintro ⟨HO, Ha3, Hpay⟩
  ihave HgQ0 := (Entails.of_eq (show dmaPay Wq Wo c (6 + (3 : Fin 12).val) = ptQ0 c fullShare (Wq (prv c)) from rfl)) $$ Hpay
  iapply (step_wait Wq Wo K c 9 4 (src := Memref.whole cc0_stg4_0) (dst := slotO 0 inb_S3x512x768_S1x512x768_0_0_0) (by decide) rfl rfl) $$ [Hc9 HO Ha9]
  · isplitr; · iexact HI
    isplitl [Hc9]; · iexact Hc9
    isplitl [HO]; · iexact HO
    isplitr; · iexact Hlev
    iexact Ha9
  iintro ⟨HO, Ha9, Hpay⟩
  ihave HgO0 := (Entails.of_eq (show dmaPay Wq Wo c (6 + (9 : Fin 12).val) = ptO0 c fullShare (Wo (prv c)) from rfl)) $$ Hpay
  ihave Hgot := (Entails.of_eq (halves c (slotQ 0 inb_S3x768x512_S1x768x512_0_0_0) _)) $$ HgQ0
  icases Hgot with ⟨HgQ0l, HgQ0⟩
  ihave Hgot := (Entails.of_eq (halves c (slotO 0 inb_S3x512x768_S1x512x768_0_0_0) _)) $$ HgO0
  icases Hgot with ⟨HgO0l, HgO0⟩
  iapply (step_send Wq Wo K c 1 4 3 rfl rfl rfl _ (dev5_eq c) (dst := slotQ 1 inb_S3x768x512_S1x768x512_1_0_0) (src := slotQ 0 inb_S3x768x512_S1x768x512_0_0_0) rfl fullShare.left (repQ (Wq (prv c))) g1 .rfl (sentQ1 Wq Wo c g1)) $$ [HgQ0l Hd1 HO Ht1 Ht4]
  · isplitr; · iexact HI
    isplitl [HgQ0l]; · iexact HgQ0l
    isplitl [Hd1]; · iexact Hd1
    isplitl [HO]; · iexact HO
    isplitl [Ht1]; · iexact Ht1
    isplitr; · iexact Hr1
    isplitl [Ht4]; · iexact Ht4
    iexact Hn4r
  iintro ⟨Hc1, HO⟩
  iapply (step_send Wq Wo K c 7 10 2 rfl rfl rfl _ (dev6_eq c) (dst := slotO 1 inb_S3x512x768_S1x512x768_1_0_0) (src := slotO 0 inb_S3x512x768_S1x512x768_0_0_0) rfl fullShare.left (repO (Wo (prv c))) p1 .rfl (sentO1 Wq Wo c p1)) $$ [HgO0l He1 HO Ht7 Ht10]
  · isplitr; · iexact HI
    isplitl [HgO0l]; · iexact HgO0l
    isplitl [He1]; · iexact He1
    isplitl [HO]; · iexact HO
    isplitl [Ht7]; · iexact Ht7
    isplitr; · iexact Hr7
    isplitl [Ht10]; · iexact Ht10
    iexact Hn10r
  iintro ⟨Hc7, HO⟩
  iapply (step_loadQ c 0) $$ [HgQ0]
  · iexact HgQ0
  iintro HgQ0
  iapply (step_loadO c 0) $$ [HgO0]
  · iexact HgO0
  iintro HgO0
  iapply (step_load c (Memref.isWhole_whole _) zero2) $$ [H0]
  · iexact H0
  iintro H0
  iapply (step_load c (Memref.isWhole_whole _) zero2) $$ [H8]
  · iexact H8
  iintro H8
  iapply (step_store c (Memref.isWhole_whole _) zero2) $$ [H8]
  · iexact H8
  iintro H8
  iapply (step_loop2 c _ kg vg) $$ [H2 H3 H8 H9]
  · isplitl [H2]; · iexact H2
    isplitl [H3]; · iexact H3
    isplitl [H8]; · iexact H8
    iexact H9
  iintro ⟨H2, H3, H8, H9⟩
  iapply (step_load c (Memref.isWhole_whole _) zero2) $$ [H9]
  · iexact H9
  iintro H9
  iapply (step_load c (Memref.isWhole_whole _) zero2) $$ [H5]
  · iexact H5
  iintro H5
  iapply (step_load c (Memref.isWhole_whole _) zero2) $$ [H5]
  · iexact H5
  iintro H5
  iapply (step_store c (Memref.isWhole_whole _) zero2) $$ [H5]
  · iexact H5
  iintro H5
  iapply (step_wait Wq Wo K c 4 2 (src := slotQ 0 inb_S3x768x512_S1x768x512_0_0_0) (dst := slotQ 1 inb_S3x768x512_S1x768x512_1_0_0) (by decide) rfl rfl) $$ [Hc4 HO Ha4]
  · isplitr; · iexact HI
    isplitl [Hc4]; · iexact Hc4
    isplitl [HO]; · iexact HO
    isplitr; · iexact Hlev
    iexact Ha4
  iintro ⟨HO, Ha4, Hpay⟩
  ihave HgQ1 := (Entails.of_eq (show dmaPay Wq Wo c (6 + (4 : Fin 12).val) = ptQ1 c fullShare (Wq (opp c)) from rfl)) $$ Hpay
  iapply (step_wait Wq Wo K c 10 2 (src := slotO 0 inb_S3x512x768_S1x512x768_0_0_0) (dst := slotO 1 inb_S3x512x768_S1x512x768_1_0_0) (by decide) rfl rfl) $$ [Hc10 HO Ha10]
  · isplitr; · iexact HI
    isplitl [Hc10]; · iexact Hc10
    isplitl [HO]; · iexact HO
    isplitr; · iexact Hlev
    iexact Ha10
  iintro ⟨HO, Ha10, Hpay⟩
  ihave HgO1 := (Entails.of_eq (show dmaPay Wq Wo c (6 + (10 : Fin 12).val) = ptO1 c fullShare (Wo (opp c)) from rfl)) $$ Hpay
  ihave Hgot := (Entails.of_eq (halves c (slotQ 1 inb_S3x768x512_S1x768x512_1_0_0) _)) $$ HgQ1
  icases Hgot with ⟨HgQ1l, HgQ1⟩
  ihave Hgot := (Entails.of_eq (halves c (slotO 1 inb_S3x512x768_S1x512x768_1_0_0) _)) $$ HgO1
  icases Hgot with ⟨HgO1l, HgO1⟩
  iapply (step_send Wq Wo K c 2 5 1 rfl rfl rfl _ (dev7_eq c) (dst := slotQ 2 inb_S3x768x512_S1x768x512_2_0_0) (src := slotQ 1 inb_S3x768x512_S1x768x512_1_0_0) rfl fullShare.left (repQ (Wq (opp c))) g2 .rfl (sentQ2 Wq Wo c g2)) $$ [HgQ1l Hd2 HO Ht2 Ht5]
  · isplitr; · iexact HI
    isplitl [HgQ1l]; · iexact HgQ1l
    isplitl [Hd2]; · iexact Hd2
    isplitl [HO]; · iexact HO
    isplitl [Ht2]; · iexact Ht2
    isplitr; · iexact Hr2
    isplitl [Ht5]; · iexact Ht5
    iexact Hn5r
  iintro ⟨Hc2, HO⟩
  iapply (step_send Wq Wo K c 8 11 0 rfl rfl rfl _ (dev8_eq c) (dst := slotO 2 inb_S3x512x768_S1x512x768_2_0_0) (src := slotO 1 inb_S3x512x768_S1x512x768_1_0_0) rfl fullShare.left (repO (Wo (opp c))) p2 .rfl (sentO2 Wq Wo c p2)) $$ [HgO1l He2 HO Ht8 Ht11]
  · isplitr; · iexact HI
    isplitl [HgO1l]; · iexact HgO1l
    isplitl [He2]; · iexact He2
    isplitl [HO]; · iexact HO
    isplitl [Ht8]; · iexact Ht8
    isplitr; · iexact Hr8
    isplitl [Ht11]; · iexact Ht11
    iexact Hn11r
  iintro ⟨Hc8, HO⟩
  iapply (step_loadQ c 1) $$ [HgQ1]
  · iexact HgQ1
  iintro HgQ1
  iapply (step_loadO c 1) $$ [HgO1]
  · iexact HgO1
  iintro HgO1
  iapply (step_load c (Memref.isWhole_whole _) zero2) $$ [H0]
  · iexact H0
  iintro H0
  iapply (step_load c (Memref.isWhole_whole _) zero2) $$ [H8]
  · iexact H8
  iintro H8
  iapply (step_store c (Memref.isWhole_whole _) zero2) $$ [H8]
  · iexact H8
  iintro H8
  iapply (step_loop3 c _ kg vg) $$ [H2 H3 H8 H9]
  · isplitl [H2]; · iexact H2
    isplitl [H3]; · iexact H3
    isplitl [H8]; · iexact H8
    iexact H9
  iintro ⟨H2, H3, H8, H9⟩
  iapply (step_load c (Memref.isWhole_whole _) zero2) $$ [H9]
  · iexact H9
  iintro H9
  iapply (step_load c (Memref.isWhole_whole _) zero2) $$ [H5]
  · iexact H5
  iintro H5
  iapply (step_load c (Memref.isWhole_whole _) zero2) $$ [H5]
  · iexact H5
  iintro H5
  iapply (step_store c (Memref.isWhole_whole _) zero2) $$ [H5]
  · iexact H5
  iintro H5
  iapply (step_wait Wq Wo K c 5 0 (src := slotQ 1 inb_S3x768x512_S1x768x512_1_0_0) (dst := slotQ 2 inb_S3x768x512_S1x768x512_2_0_0) (by decide) rfl rfl) $$ [Hc5 HO Ha5]
  · isplitr; · iexact HI
    isplitl [Hc5]; · iexact Hc5
    isplitl [HO]; · iexact HO
    isplitr; · iexact Hlev
    iexact Ha5
  iintro ⟨HO, Ha5, Hpay⟩
  ihave HgQ2 := (Entails.of_eq (show dmaPay Wq Wo c (6 + (5 : Fin 12).val) = ptQ2 c fullShare (Wq (nxt c)) from rfl)) $$ Hpay
  iapply (step_wait Wq Wo K c 11 0 (src := slotO 1 inb_S3x512x768_S1x512x768_1_0_0) (dst := slotO 2 inb_S3x512x768_S1x512x768_2_0_0) (by decide) rfl rfl) $$ [Hc11 HO Ha11]
  · isplitr; · iexact HI
    isplitl [Hc11]; · iexact Hc11
    isplitl [HO]; · iexact HO
    isplitr; · iexact Hlev
    iexact Ha11
  iintro ⟨HO, Ha11, Hpay⟩
  ihave HgO2 := (Entails.of_eq (show dmaPay Wq Wo c (6 + (11 : Fin 12).val) = ptO2 c fullShare (Wo (nxt c)) from rfl)) $$ Hpay
  iapply (step_loadQ c 2) $$ [HgQ2]
  · iexact HgQ2
  iintro HgQ2
  iapply (step_loadO c 2) $$ [HgO2]
  · iexact HgO2
  iintro HgO2
  iapply (step_load c (Memref.isWhole_whole _) zero2) $$ [H0]
  · iexact H0
  iintro H0
  iapply (step_load c (Memref.isWhole_whole _) zero2) $$ [H8]
  · iexact H8
  iintro H8
  iapply (step_store c (Memref.isWhole_whole _) zero2) $$ [H8]
  · iexact H8
  iintro H8
  iapply (step_loop4 c _ kg vg) $$ [H2 H3 H8 H9]
  · isplitl [H2]; · iexact H2
    isplitl [H3]; · iexact H3
    isplitl [H8]; · iexact H8
    iexact H9
  iintro ⟨H2, H3, H8, H9⟩
  iapply (step_load c (Memref.isWhole_whole _) zero2) $$ [H9]
  · iexact H9
  iintro H9
  iapply (step_load c (Memref.isWhole_whole _) zero2) $$ [H5]
  · iexact H5
  iintro H5
  iapply (step_load c (Memref.isWhole_whole _) zero2) $$ [H5]
  · iexact H5
  iintro H5
  iapply (step_store c (Memref.isWhole_whole _) zero2) $$ [H5]
  · iexact H5
  iintro H5
  iapply (step_wait Wq Wo K c 0 0 (src := slotQ 0 inb_S3x768x512_S1x768x512_0_0_0) (dst := Memref.whole cc0_stg1_0) (by decide) rfl rfl) $$ [Hc0 HO Ha0]
  · isplitr; · iexact HI
    isplitl [Hc0]; · iexact Hc0
    isplitl [HO]; · iexact HO
    isplitr; · iexact Hlev
    iexact Ha0
  iintro ⟨HO, Ha0, Hpay⟩
  ihave H1l := (Entails.of_eq (show dmaPay Wq Wo c (6 + (0 : Fin 12).val) = ptWq c fullShare.left (Wq c) from rfl)) $$ Hpay
  iapply (step_wait Wq Wo K c 6 0 (src := slotO 0 inb_S3x512x768_S1x512x768_0_0_0) (dst := Memref.whole cc0_stg4_0) (by decide) rfl rfl) $$ [Hc6 HO Ha6]
  · isplitr; · iexact HI
    isplitl [Hc6]; · iexact Hc6
    isplitl [HO]; · iexact HO
    isplitr; · iexact Hlev
    iexact Ha6
  iintro ⟨HO, Ha6, Hpay⟩
  ihave H4l := (Entails.of_eq (show dmaPay Wq Wo c (6 + (6 : Fin 12).val) = ptWo c fullShare.left (Wo c) from rfl)) $$ Hpay
  iapply (step_wait Wq Wo K c 1 0 (src := slotQ 1 inb_S3x768x512_S1x768x512_1_0_0) (dst := slotQ 0 inb_S3x768x512_S1x768x512_0_0_0) (by decide) rfl rfl) $$ [Hc1 HO Ha1]
  · isplitr; · iexact HI
    isplitl [Hc1]; · iexact Hc1
    isplitl [HO]; · iexact HO
    isplitr; · iexact Hlev
    iexact Ha1
  iintro ⟨HO, Ha1, Hpay⟩
  ihave HgQ0l := (Entails.of_eq (show dmaPay Wq Wo c (6 + (1 : Fin 12).val) = ptQ0 c fullShare.left (Wq (prv c)) from rfl)) $$ Hpay
  iapply (step_wait Wq Wo K c 7 0 (src := slotO 1 inb_S3x512x768_S1x512x768_1_0_0) (dst := slotO 0 inb_S3x512x768_S1x512x768_0_0_0) (by decide) rfl rfl) $$ [Hc7 HO Ha7]
  · isplitr; · iexact HI
    isplitl [Hc7]; · iexact Hc7
    isplitl [HO]; · iexact HO
    isplitr; · iexact Hlev
    iexact Ha7
  iintro ⟨HO, Ha7, Hpay⟩
  ihave HgO0l := (Entails.of_eq (show dmaPay Wq Wo c (6 + (7 : Fin 12).val) = ptO0 c fullShare.left (Wo (prv c)) from rfl)) $$ Hpay
  iapply (step_wait Wq Wo K c 2 0 (src := slotQ 2 inb_S3x768x512_S1x768x512_2_0_0) (dst := slotQ 1 inb_S3x768x512_S1x768x512_1_0_0) (by decide) rfl rfl) $$ [Hc2 HO Ha2]
  · isplitr; · iexact HI
    isplitl [Hc2]; · iexact Hc2
    isplitl [HO]; · iexact HO
    isplitr; · iexact Hlev
    iexact Ha2
  iintro ⟨HO, Ha2, Hpay⟩
  ihave HgQ1l := (Entails.of_eq (show dmaPay Wq Wo c (6 + (2 : Fin 12).val) = ptQ1 c fullShare.left (Wq (opp c)) from rfl)) $$ Hpay
  iapply (step_wait Wq Wo K c 8 0 (src := slotO 2 inb_S3x512x768_S1x512x768_2_0_0) (dst := slotO 1 inb_S3x512x768_S1x512x768_1_0_0) (by decide) rfl rfl) $$ [Hc8 HO Ha8]
  · isplitr; · iexact HI
    isplitl [Hc8]; · iexact Hc8
    isplitl [HO]; · iexact HO
    isplitr; · iexact Hlev
    iexact Ha8
  iintro ⟨HO, Ha8, Hpay⟩
  ihave HgO1l := (Entails.of_eq (show dmaPay Wq Wo c (6 + (8 : Fin 12).val) = ptO1 c fullShare.left (Wo (opp c)) from rfl)) $$ Hpay
  rw [wp_ret]
  imodintro
  iapply Hk
  isplitr; · iexact HI
  isplitl [Hbar]; · iexact Hbar
  isplitl [Ha0 Ha1 Ha2 Ha3 Ha4 Ha5 Ha6 Ha7 Ha8 Ha9 Ha10 Ha11]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    iexact Ha11
  isplitl [HO]; · iexact HO
  isplitl [HgQ0l HgQ0 HgQ1l HgQ1 HgQ2]
  · iapply (joinQ c)
    isplitl [HgQ0l HgQ0]
    · iexists _
      iapply (Entails.of_eq (halves c (slotQ 0 inb_S3x768x512_S1x768x512_0_0_0) (repQ (Wq (prv c)))).symm)
      isplitl [HgQ0l]; · iexact HgQ0l
      iexact HgQ0
    isplitl [HgQ1l HgQ1]
    · iexists _
      iapply (Entails.of_eq (halves c (slotQ 1 inb_S3x768x512_S1x768x512_1_0_0) (repQ (Wq (opp c)))).symm)
      isplitl [HgQ1l]; · iexact HgQ1l
      iexact HgQ1
    iexists _; iexact HgQ2
  isplitl [HgO0l HgO0 HgO1l HgO1 HgO2]
  · iapply (joinO c)
    isplitl [HgO0l HgO0]
    · iexists _
      iapply (Entails.of_eq (halves c (slotO 0 inb_S3x512x768_S1x512x768_0_0_0) (repO (Wo (prv c)))).symm)
      isplitl [HgO0l]; · iexact HgO0l
      iexact HgO0
    isplitl [HgO1l HgO1]
    · iexists _
      iapply (Entails.of_eq (halves c (slotO 1 inb_S3x512x768_S1x512x768_1_0_0) (repO (Wo (opp c)))).symm)
      isplitl [HgO1l]; · iexact HgO1l
      iexact HgO1
    iexists _; iexact HgO2
  isplitl [H8 H9]
  · isplitl [H8]
    · iexists _; iexact H8
    iexists _; iexact H9
  isplitl [H0]; · iexact H0
  isplitl [H1l H1]
  · iapply (Entails.of_eq (splitWq c (Wq c)).symm)
    isplitl [H1l]; · iexact H1l
    iexact H1
  isplitl [H2]; · iexact H2
  isplitl [H3]; · iexact H3
  isplitl [H4l H4]
  · iapply (Entails.of_eq (splitWo c (Wo c)).symm)
    isplitl [H4l]; · iexact H4l
    iexact H4
  iexact H5

end Run

end Cert.KernelIdeal.Hand
-- ==== Proof.Region.lean ====
/-
  The kernel's region: what each window's array and staging buffer hold before and after the body, and the region as one
  step of `@main`.
-/
module

public import proofs.«01_k».proof.Proof.Body
public import proofs.«01_k».proof.Proof.Gen.KernelIdeal.Points
public import proofs.«01_k».proof.Proof.Gen.KernelIdeal.Regions
public import Idealize.ShloMosaic.Lib.Pipeline.RegionTalk

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The operands -/

/-- Device `c`'s activations, regrouped. -/
abbrev xOf (c : Dev nD) : Vec F S1024x768 .f32 := V1 m c main_v17
/-- Device `c`'s block of the first weight. -/
abbrev wqOf (c : Dev nD) : Vec F S768x512 .f32 := V1 m c main_arg1
/-- The keys device `c` attends over, regrouped by head group. -/
abbrev kOf (c : Dev nD) : Vec F S4x1024x512 .f32 := V1 m c main_v20
/-- The values device `c` attends over, regrouped by head group. -/
abbrev vOf (c : Dev nD) : Vec F S4x1024x512 .f32 := V1 m c main_v23
/-- Device `c`'s block of the second weight. -/
abbrev woOf (c : Dev nD) : Vec F S512x768 .f32 := V1 m c main_arg4
/-- What the body leaves in device `c`'s result. -/
abbrev outOf (c : Dev nD) : Vec F S1024x768 .f32 := out4 (xOf m c) (kOf m c) (vOf m c) (wqOf m) (woOf m) c

/-- The contents the region leaves: its one result. -/
def outs : Outs (F := F) := fun _ r c => if h : r = main_v24 then h ▸ outOf m c else V1 m c r

theorem outs_v24 (c : Dev nD) : outs m 2 main_v24 c = outOf m c := dif_pos rfl

/-! ## The body as the pipeline asks for it -/

/-- The four scratch buffers and the generator's register. -/
def spare (c : Dev nD) : sProp 𝕄 :=
  iprop(anyBuf c cc0_scratch0 ∗ anyBuf c cc0_scratch1 ∗ scratches c ∗ ∃ r, prngReg c r)
/-- What the body starts from besides its staging buffers. -/
def entered (c : Dev nD) : sProp 𝕄 :=
  iprop((∃ K, opened (wqOf m) (woOf m) K c) ∗ creds c ∗ levAts L lv ∗ spare c)
/-- What it leaves: its counters at zero. -/
def finished (c : Dev nD) : sProp 𝕄 :=
  iprop(semVal (bar c) 0 ∗ (bigSep Finset.univ fun k : Fin 12 => semVal (own c k) 0) ∗ spare c)

/-- What each window's array holds at entry and what its staging buffer holds after the body, with what the core owes. -/
def dat (c : Dev nD) : Dat τ (Elt F) Unit ℕ UU ℕ cfg0 c where
  A w := match w with
    | 0 => V1 m c main_v17
    | 1 => V1 m c main_arg1
    | 2 => V1 m c main_v20
    | 3 => V1 m c main_v23
    | 4 => V1 m c main_arg4
    | 5 => V1 m c main_v24
    | ⟨_ + 6, h⟩ => absurd h (Nat.not_lt.2 (Nat.le_add_left _ _))
  after w _ := match w with
    | 0 => xOf m c
    | 1 => wqOf m c
    | 2 => kOf m c
    | 3 => vOf m c
    | 4 => woOf m c
    | 5 => outOf m c
    | ⟨_ + 6, h⟩ => absurd h (Nat.not_lt.2 (Nat.le_add_left _ _))
  Φ t := if t.val = 0 then entered m c else finished c
  q _ := fullShare
  owed t := if t.val = 0 then owe c 8 else 0

def pdats : (p : Fin 1) → (c : Dev nD) → Dat τ (Elt F) Unit ℕ UU ℕ (Pipeline.pin (pcfgs (F := F)) adm p) c :=
  fun _ => dat m

/-- A buffer owned at some contents is held at them, and back. -/
theorem owns_to (c : Dev nD) {s : Shape} {e : EltTy} (mr : Memref sig .tc .vmem s e) (hm : mr.IsWhole) (X : Vec F s e) :
    (owns (Ix := Unit) (Name := ℕ) (U := UU) (Lvl := ℕ) (c : Thread nD τ) mr fullShare X : sProp 𝕄) ⊢ holds c mr hm fullShare X := by
  unfold owns
  iintro ⟨%f, %hf, H⟩
  rw [hm.eq_unread hf]
  iexact H
theorem to_owns (c : Dev nD) {s : Shape} {e : EltTy} (mr : Memref sig .tc .vmem s e) (hm : mr.IsWhole) (X : Vec F s e) :
    holds c mr hm fullShare X ⊢ (owns (Ix := Unit) (Name := ℕ) (U := UU) (Lvl := ℕ) (c : Thread nD τ) mr fullShare X : sProp 𝕄) := by
  unfold owns
  iintro H
  iexists (hm.unread X)
  isplitr
  · ipureintro; exact hm.read_unread X
  iexact H

/-- The block of a window at index zero starts where the array does. -/
theorem emb_zero (w : Pipeline.Window sig grid0) (h : ∀ a, w.index t0_0 a = 0) (y : (w.xblock (grid0.coords t0_0)).Idx) (a : Fin w.shape.rank) :
    ((w.rect t0_0).emb y a : ℕ) = y a := w.rect_emb_val_of_index_zero t0_0 a (h a) y

/-! Each operand's staging buffer holds the operand. -/

theorem before_0 (c : Dev nD) (d) : (dat m c).before (0 : Fin 6) t0_0 d = xOf m c := by
  have key (X : Vec F S1024x768 .f32) : win0_0.fill (grid0.coords t0_0) d ((win0_0.blk t0_0).view.read (Elt F) X) = X := by
    rw [show (win0_0.blk t0_0).view.read (Elt F) X = X from
      funext fun y => congrArg X (funext fun a => Fin.ext (emb_zero win0_0 (fun _ => rfl) y a))]; rfl
  unfold Dat.before; rw [if_pos (fetch0_0 t0_0)]; exact key (xOf m c)
theorem before_1 (c : Dev nD) (d) : (dat m c).before (1 : Fin 6) t0_0 d = wqOf m c := by
  have key (X : Vec F S768x512 .f32) : win0_1.fill (grid0.coords t0_0) d ((win0_1.blk t0_0).view.read (Elt F) X) = X := by
    rw [show (win0_1.blk t0_0).view.read (Elt F) X = X from
      funext fun y => congrArg X (funext fun a => Fin.ext (emb_zero win0_1 (fun _ => rfl) y a))]; rfl
  unfold Dat.before; rw [if_pos (fetch0_1 t0_0)]; exact key (wqOf m c)
theorem before_2 (c : Dev nD) (d) : (dat m c).before (2 : Fin 6) t0_0 d = kOf m c := by
  have key (X : Vec F S4x1024x512 .f32) : win0_2.fill (grid0.coords t0_0) d ((win0_2.blk t0_0).view.read (Elt F) X) = X := by
    rw [show (win0_2.blk t0_0).view.read (Elt F) X = X from
      funext fun y => congrArg X (funext fun a => Fin.ext (emb_zero win0_2 (fun _ => rfl) y a))]; rfl
  unfold Dat.before; rw [if_pos (fetch0_2 t0_0)]; exact key (kOf m c)
theorem before_3 (c : Dev nD) (d) : (dat m c).before (3 : Fin 6) t0_0 d = vOf m c := by
  have key (X : Vec F S4x1024x512 .f32) : win0_3.fill (grid0.coords t0_0) d ((win0_3.blk t0_0).view.read (Elt F) X) = X := by
    rw [show (win0_3.blk t0_0).view.read (Elt F) X = X from
      funext fun y => congrArg X (funext fun a => Fin.ext (emb_zero win0_3 (fun _ => rfl) y a))]; rfl
  unfold Dat.before; rw [if_pos (fetch0_3 t0_0)]; exact key (vOf m c)
theorem before_4 (c : Dev nD) (d) : (dat m c).before (4 : Fin 6) t0_0 d = woOf m c := by
  have key (X : Vec F S512x768 .f32) : win0_4.fill (grid0.coords t0_0) d ((win0_4.blk t0_0).view.read (Elt F) X) = X := by
    rw [show (win0_4.blk t0_0).view.read (Elt F) X = X from
      funext fun y => congrArg X (funext fun a => Fin.ext (emb_zero win0_4 (fun _ => rfl) y a))]; rfl
  unfold Dat.before; rw [if_pos (fetch0_4 t0_0)]; exact key (woOf m c)

/-! ## Where the region leaves off -/

theorem owed_first (c : Dev nD) : (dat m c).owed t0_0.castSucc = owe c 8 := by
  show (if (t0_0.castSucc : Fin (cfg0.N + 1)).val = 0 then owe c 8 else 0) = owe c 8
  exact if_pos rfl
theorem owed_last (c : Dev nD) : (dat m c).owed (Fin.last _) = 0 := by
  show (if (Fin.last cfg0.N).val = 0 then owe c 8 else 0) = 0
  rw [Fin.val_last, if_neg (by rw [show cfg0.N = 1 from N_0]; decide)]

theorem owes_in (c : Dev nD) : ((dat m c).owesAt () t0_0.castSucc : sProp 𝕄) ⊢ owing c 8 := by
  unfold Dat.owesAt Pipeline.owesWithin owing
  rw [owed_first m c]
  iintro ⟨%W, -, H⟩
  iexists W
  iexact H
theorem owes_out (c : Dev nD) : owing c 0 ⊢ ((dat m c).owesAt () t0_0.succ : sProp 𝕄) := by
  unfold Dat.owesAt Pipeline.owesWithin owing Dat.bound
  rw [show (dat m c).owed t0_0.succ = 0 from owed_last m c]
  iintro ⟨%W, H⟩
  iexists W
  isplitr
  · ipureintro; exact fun _ _ => Or.inl trivial
  iexact H

/-- All of a device's cells closed: their counters are zero. -/
theorem close_cells (Wq : Dev nD → Vec F S768x512 .f32) (Wo : Dev nD → Vec F S512x768 .f32) (K : GSem nD τ sig → ℕ) (c : Dev nD) :
    iprop(invs Wq Wo K c ∗ atPos ER (bar c) 1 ∅ 0 ∗ bigSep Finset.univ fun k : Fin 12 => atPos ER (own c k) 1 ∅ 0)
      ⊢ (|={Set.univ}=> iprop(semVal (bar c) 0 ∗ bigSep Finset.univ fun k : Fin 12 => semVal (own c k) 0) : sProp 𝕄) := by
  unfold invs
  iintro ⟨⟨#Hb, -, -, #Ho, -⟩, Hab, Hao⟩
  imod (Rounds.cell_close ER (Rd Wq Wo) (Set.mem_univ (K (bar c))) (fun h => h) (R := 1) (duties_later Wq Wo (bar c))) $$ [Hab] with Hz
  · isplitr; · iexact Hb
    iexact Hab
  imod (Rounds.cells_close ER (Rd Wq Wo) Finset.univ (own c) (fun k => K (own c k)) (fun k _ => Set.mem_univ _) (fun _ _ h => h) (fun _ => 1)
    (fun k _ => duties_later Wq Wo (own c k))) $$ [Hao] with Hzs
  · rw [bigSep_sep']
    isplitr; · iexact Ho
    iexact Hao
  imodintro
  isplitl [Hz] <;> iassumption

/-- The body does what the pipeline asks of it. -/
theorem body_obligation (c : Dev nD) : BodyObligation (dat m c) (defs₀ (F := F)) 𝒱₀ () Set.univ := fun t => by
  obtain rfl := fin_N0 t
  rw [bigSep_W0, bigSep_W0]
  rw [show (dat m c).Φ t0_0.castSucc = entered m c from rfl, show (dat m c).Φ t0_0.succ = finished c from rfl]
  dsimp only
  unfold entered spare
  iintro ⟨⟨⟨%K, Hop⟩, Hcr, Hlev, Hs0, Hs1, Hsc, Hp⟩, HO, ⟨%d0, H0⟩, ⟨%d1, H1⟩, ⟨%d2, H2⟩, ⟨%d3, H3⟩, ⟨%d4, H4⟩, ⟨%d5, H5⟩⟩
  rw [before_0 m c d0, before_1 m c d1, before_2 m c d2, before_3 m c d3, before_4 m c d4]
  ihave HO := (owes_in m c) $$ HO
  iapply (wp_fupd frame (wpE (defs₀ (F := F)) 𝒱₀ (c : Thread nD τ) none) Set.univ)
  iapply (body_run (xOf m c) (kOf m c) (vOf m c) (wqOf m) (woOf m) K c ((dat m c).before (5 : Fin 6) t0_0 d5) _)
  isplitr [Hp]
  · isplitl [Hop]; · iexact Hop
    isplitl [Hcr]; · iexact Hcr
    isplitl [Hlev]; · iexact Hlev
    isplitl [HO]; · iexact HO
    isplitl [Hs0]; · iexact Hs0
    isplitl [Hs1]; · iexact Hs1
    isplitl [Hsc]; · iexact Hsc
    unfold staged
    isplitl [H0]; · iapply (owns_to c _ _ _) $$ H0
    isplitl [H1]; · iapply (owns_to c _ _ _) $$ H1
    isplitl [H2]; · iapply (owns_to c _ _ _) $$ H2
    isplitl [H3]; · iapply (owns_to c _ _ _) $$ H3
    isplitl [H4]; · iapply (owns_to c _ _ _) $$ H4
    iapply (owns_to c _ _ _) $$ H5
  iintro ⟨#Hinv, Hab, Hao, HO, Hs0, Hs1, Hsc, Hst⟩
  imod (close_cells (wqOf m) (woOf m) K c) $$ [Hab Hao] with ⟨Hz, Hzs⟩
  · isplitr; · iexact Hinv
    isplitl [Hab] <;> iassumption
  imodintro
  unfold staged
  icases Hst with ⟨H0, H1, H2, H3, H4, H5⟩
  isplitl [Hz Hzs Hs0 Hs1 Hsc Hp]
  · unfold finished spare
    isplitl [Hz]; · iexact Hz
    isplitl [Hzs]; · iexact Hzs
    isplitl [Hs0]; · iexact Hs0
    isplitl [Hs1]; · iexact Hs1
    isplitl [Hsc]; · iexact Hsc
    iexact Hp
  isplitl [HO]; · iapply (owes_out m c) $$ HO
  isplitl [H0]; · iapply (to_owns c _ _ _) $$ H0
  isplitl [H1]; · iapply (to_owns c _ _ _) $$ H1
  isplitl [H2]; · iapply (to_owns c _ _ _) $$ H2
  isplitl [H3]; · iapply (to_owns c _ _ _) $$ H3
  isplitl [H4]; · iapply (to_owns c _ _ _) $$ H4
  iapply (to_owns c _ _ _) $$ H5

end Cert.KernelIdeal.Hand

end
-- ==== Proof.Segment.lean ====
/-
  The kernel's region as one step of `@main`, with what rides along before and after it.
-/
module

public import proofs.«01_k».proof.Proof.Region

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The region -/

/-- The buffers the region's windows stage, and the rest of the unscoped ones. -/
abbrev staging : Finset (DevRef τ sig) := Pipeline.arrRefs (τ := τ) spec0
abbrev others : Finset (DevRef τ sig) := Pipeline.ucRefs τ sig \ staging

/-- What device `c` carries to the region besides its buffers. -/
def carried (c : Dev nD) : sProp 𝕄 := iprop((∃ K, ghost (wqOf m) (woOf m) K c) ∗ creds c)
/-- The same inside the region. -/
def carriedIn (c : Dev nD) : sProp 𝕄 := iprop((∃ K, opened (wqOf m) (woOf m) K c) ∗ creds c ∗ levAts L lv)

theorem osem_facts : Pipeline.OwnSemFacts spec0 osem := by decide

theorem region_open (c : Dev nD) : iprop(carried m c ∗ Pipeline.ownSems0 osem c ∗ levAts L lv) ⊢ (|={Set.univ}=> carriedIn m c : sProp 𝕄) := by
  unfold carried carriedIn
  iintro ⟨⟨⟨%K, Hg⟩, Hcr⟩, Hos, Hlev⟩
  imod (open_cells (wqOf m) (woOf m) K c) $$ [Hg Hos] with Hop
  · isplitl [Hg]; · iexact Hg
    iapply (Entails.of_eq (show Pipeline.ownSems0 osem c = bigSep Finset.univ fun k : Fin 12 => (semVal (own c k) 0 : sProp 𝕄) from rfl)) $$ Hos
  imodintro
  isplitl [Hop]; · iexists K; iexact Hop
  isplitl [Hcr] <;> iassumption

theorem held_none (c : Dev nD) (W : Valuation τ sig (Elt F)) :
    (StableHlo.held (c.tc : Thread nD τ) (∅ : Finset (DevRef τ sig)) W : sProp 𝕄) = BI.emp := by
  unfold StableHlo.held
  exact BI.bigSep_empty

/-- The scratch buffers that stay on the device, at some contents each, as the body holds them. -/
theorem scratches_eq (c : Dev nD) : (iprop(anyBuf c cc0_scratch2 ∗ anyBuf c cc0_scratch3) : sProp 𝕄) = scratches c := by
  have h2 (f : Vec F S1024x512 .f32) : holds c (Memref.whole cc0_scratch2) (Memref.isWhole_whole _) fullShare f
      = (((c : Thread nD τ).loc cc0_scratch2 ↦{fullShare} f : sProp 𝕄)) := by
    unfold holds
    rw [unread_whole (b := cc0_scratch2), View.set_whole]
  have h3 (f : Vec F S1024x512 .f32) : holds c (Memref.whole cc0_scratch3) (Memref.isWhole_whole _) fullShare f
      = (((c : Thread nD τ).loc cc0_scratch3 ↦{fullShare} f : sProp 𝕄)) := by
    unfold holds
    rw [unread_whole (b := cc0_scratch3), View.set_whole]
  unfold scratches
  simp only [h2, h3]

theorem spare_in (c : Dev nD) : (iprop(Pipeline.scopedRest (Ix := Unit) (Name := ℕ) (U := UU) (Lvl := ℕ) (Val := Elt F) spec0 c ∗ ∃ r, prngReg c r) : sProp 𝕄) ⊢ spare c := by
  unfold spare
  rw [scopedRest0_eq, ← scratches_eq]
  iintro ⟨⟨H0, H1, H2, H3⟩, Hp⟩
  isplitl [H0]; · iexact H0
  isplitl [H1]; · iexact H1
  isplitl [H2 H3]; · isplitl [H2] <;> iassumption
  iexact Hp
theorem spare_out (c : Dev nD) : (spare c : sProp 𝕄) ⊢ iprop(Pipeline.scopedRest (Ix := Unit) (Name := ℕ) (U := UU) (Lvl := ℕ) (Val := Elt F) spec0 c ∗ ∃ r, prngReg c r) := by
  unfold spare
  rw [scopedRest0_eq, ← scratches_eq]
  iintro ⟨H0, H1, ⟨H2, H3⟩, Hp⟩
  isplitr [Hp]
  · isplitl [H0]; · iexact H0
    isplitl [H1]; · iexact H1
    isplitl [H2] <;> iassumption
  iexact Hp

theorem region_in (c : Dev nD) : iprop(Pipeline.scopedRest (Pipeline.pin (pcfgs (F := F)) adm 0).spec c ∗ (∃ r, prngReg c r)
      ∗ StableHlo.held (c.tc : Thread nD τ) (∅ : Finset (DevRef τ sig)) (V1 m c) ∗ carriedIn m c)
    ⊢ (pdats m 0 c).Φ 0 := by
  rw [show (pdats m 0 c).Φ 0 = entered m c from rfl, held_none]
  unfold entered carriedIn
  iintro ⟨Hs, Hp, -, Hop, Hcr, Hlev⟩
  isplitl [Hop]; · iexact Hop
  isplitl [Hcr]; · iexact Hcr
  isplitl [Hlev]; · iexact Hlev
  iapply (spare_in c)
  isplitl [Hs]; · iexact Hs
  iexact Hp

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) (∅ : Finset (DevRef τ sig)) (V2 m (outs m) c) ∗ Pipeline.ownSems0 osem c ∗ semVal (bar c) 0) := by
  rw [show (pdats m 0 c).Φ (Fin.last _) = finished c from rfl, held_none]
  unfold finished
  iintro ⟨Hz, Hzs, Hsp⟩
  ihave Hsp := (spare_out c) $$ Hsp
  icases Hsp with ⟨Hs, Hp⟩
  isplitl [Hs]; · iexact Hs
  isplitl [Hp]; · iexact Hp
  isplitr; · iempintro
  isplitl [Hzs]
  · iapply (Entails.of_eq (show Pipeline.ownSems0 osem c = bigSep Finset.univ fun k : Fin 12 => (semVal (own c k) 0 : sProp 𝕄) from rfl).symm) $$ Hzs
  iexact Hz

/-- Every cell a device owes to has a level above zero. -/
theorem owed_levels (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then owe c 8 else 0 := rfl
  rw [e] at h
  split at h
  · obtain ⟨n, hn, rfl⟩ := owe_pos c 8 g i h
    refine ⟨by unfold L; rw [if_pos (due_tc c n)]; exact Finset.mem_singleton_self _, ?_⟩
    show 0 < lvS (due c n).2
    rw [due_lv]
    exact (by decide : ∀ n < 8, 0 < dueLv n) n hn
  · exact absurd h (Nat.lt_irrefl 0)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What each window's array holds before the region, and after. -/
theorem arrays_in (c : Dev nD) (w : Fin 6) : (pdats m 0 c).arrAt w 0 = V1 m c (Proc.devRef .tc (Pipeline.arrRef spec0 w)) := by
  fin_cases w <;> rfl

/-- The region's result array ends at what the body left in its staging buffer. -/
theorem array_result (c : Dev nD) : (dat m c).arrAt (5 : Fin 6) cfg0.N = outOf m c :=
  (dat m c).arrAt_eq_of_after_last (5 : Fin 6) t0_0 (by decide +kernel) (outOf m c) fun _ => rfl

/-- The other arrays end as they were. -/
theorem array_operand (c : Dev nD) (w : Fin 6) (h : (win0 w).isOut = false) (hne : Pipeline.arrRef spec0 w ≠ main_v24) :
    (dat m c).arrAt w cfg0.N = V2 m (outs m) c (Proc.devRef .tc (Pipeline.arrRef spec0 w)) := by
  rw [V2_of m (outs m) c _ (by rw [List.mem_singleton]; exact hne), ← arrays_in m c w]
  exact ((dat m c).arrAt_in w h _).trans ((dat m c).arrAt_in w h 0).symm

theorem arrays_out (c : Dev nD) (w : Fin 6) :
    (pdats m 0 c).arrAt w (Pipeline.pin (pcfgs (F := F)) adm 0).N = V2 m (outs m) c (Proc.devRef .tc (Pipeline.arrRef spec0 w)) := by
  have h : ∀ w : Fin 6, w ≠ 5 → (win0 w).isOut = false ∧ Pipeline.arrRef spec0 w ≠ main_v24 := by decide
  by_cases hw : w = 5
  · subst hw
    refine (array_result m c).trans ?_
    exact ((Function.update_self (Proc.devRef .tc main_v24) _ (V1 m c)).trans (outs_v24 m c)).symm
  · exact array_operand m c w (h w hw).1 (h w hw).2

theorem owed_zero (c : Dev nD) : (pdats m 0 c).owed 0 = owe c 8 := by
  show (if ((0 : Fin (cfg0.N + 1)).val = 0) then owe c 8 else 0) = owe c 8
  exact if_pos rfl

/-- The staging cells have level zero. -/
theorem stage_level : ∀ (w : Fin 6) (s : Fin (win0 w).nbuf), lvS (.dma ((win0 w).sem s)) ≤ 0 := by decide

set_option backward.isDefEq.respectTransparency.types false in
/-- The region as one step of `@main`. -/
def region : Pipeline.RegionSeg (Name := ℕ) (U := UU) (pcfgs (F := F)) adm (pdats m) () (defs₀ (F := F)) 𝒱₀ L lv 0 :=
  Pipeline.RegionSeg.ofTalk (pcfgs (F := F)) adm (pdats m) () (defs₀ (F := F)) 𝒱₀ L lv 0 osem osem_facts
    ∅ others (Finset.empty_subset _) kit rfl (fun c => (body_obligation m c).loose)
    (fun _ => 0) (fun c => owe c 8) (fun c => (owed_zero m c).trans (zero_add _).symm) (owed_last m)
    (fun _ => rfl) (fun c w => by unfold Dat.share; split <;> rfl)
    (V1 m) (V2 m (outs m)) (fun c b hb => by
      rw [Finset.sdiff_empty] at hb
      exact Function.update_of_ne (fun e => by subst e; revert hb; decide) _ _)
    (carried m) (fun c => semVal (bar c) 0) (carriedIn m) (fun c => semVal (bar c) 0) (region_open m) (region_in m) (region_out m)
    (fun c => by iintro H; imodintro; iexact H)
    (fun _ => 0) ⟨fun c w s => by rw [L_tc]; exact Finset.mem_singleton_self _, fun _ w s => stage_level w s, fun c t g i h => owed_levels m c t g i h⟩
    (fun _ => iprop(emp)) (arrays_in m) (arrays_out m)

/-! ## `@main` on a device -/

/-- What rides along beside the buffers: before the region the ghost state and the debts, after it the barrier's counter. -/
def ride : Fin 2 → Dev nD → sProp 𝕄
  | 0 => fun c => iprop(carried m c ∗ (∃ r, prngReg c r) ∗ owing c 8)
  | 1 => fun c => iprop(semVal (bar c) 0 ∗ owing c 0)

theorem staging_sub : staging ⊆ Pipeline.ucRefs τ sig := by decide

theorem region_pre (c : Dev nD) : iprop(StableHlo.held (c : Thread nD τ) (Pipeline.ucRefs τ sig) (V1 m c) ∗ ride m 0 c) ⊢ (region m).pre c := by
  show _ ⊢ iprop(StableHlo.held (c.tc : Thread nD τ) staging (V1 m c) ∗ (∃ r, prngReg c r)
    ∗ (StableHlo.held (c.tc : Thread nD τ) others (V1 m c) ∗ emp) ∗ carried m c ∗ ∃ Wd, owes (c : Thread nD τ) (0 + owe c 8) Wd)
  rw [StableHlo.held_sub_split (c.tc : Thread nD τ) staging_sub (V1 m c), zero_add]
  unfold ride owing
  iintro ⟨⟨Ha, Hr⟩, Hg, Hp, HO⟩
  isplitl [Ha]; · iexact Ha
  isplitl [Hp]; · iexact Hp
  isplitl [Hr]
  · isplitl [Hr]; · iexact Hr
    iempintro
  isplitl [Hg]; · iexact Hg
  iexact HO

theorem region_post (c : Dev nD) :
    (region m).post c ⊢ iprop(StableHlo.held (c : Thread nD τ) (Pipeline.ucRefs τ sig) (V2 m (outs m) c) ∗ ride m 1 c) := by
  show iprop(StableHlo.held (c.tc : Thread nD τ) staging (V2 m (outs m) c) ∗ (∃ r, prngReg c r)
    ∗ (StableHlo.held (c.tc : Thread nD τ) others (V2 m (outs m) c) ∗ emp) ∗ semVal (bar c) 0
      ∗ ∃ Wd, owes (c : Thread nD τ) (0 : CellTallies nD τ sig Unit) Wd) ⊢ _
  rw [StableHlo.held_sub_split (c.tc : Thread nD τ) staging_sub (V2 m (outs m) c)]
  unfold ride owing
  iintro ⟨Ha, -, ⟨Hr, -⟩, Hz, HO⟩
  isplitl [Ha Hr]; · isplitl [Ha] <;> iassumption
  isplitl [Hz]; · iexact Hz
  iexact HO

end Cert.KernelIdeal.Hand

end
-- ==== Proof.Fund.lean ====
/-
  The launch: the cells' invariants, and the tokens, positions and credits dealt to the devices.
-/
module

public import proofs.«01_k».proof.Proof.Segment

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem osem_inj : Function.Injective osem := by decide
theorem osem_ne_bar : ∀ k : Fin 12, osem k ≠ .reg barrier0 := by decide

def barEmb : Dev nD ↪ GSem nD τ sig := ⟨fun c => bar c, fun _ _ h => congrArg (fun g : GSem nD τ sig => g.1.1) h⟩
def ownEmb : Dev nD × Fin 12 ↪ GSem nD τ sig :=
  ⟨fun ck => own ck.1 ck.2, fun _ _ h => Prod.ext (congrArg (fun g : GSem nD τ sig => g.1.1) h) (osem_inj (congrArg Prod.snd h))⟩

/-- The barrier cells, and the body's own cells, which stay closed until each device's body opens its own. -/
abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : bar c ∈ (barCells ∪ ownCells : Finset (GSem nD τ sig)) :=
  Finset.mem_union_left _ (Finset.mem_map_of_mem barEmb (Finset.mem_univ c))
theorem own_mem (c : Dev nD) (k : Fin 12) : own c k ∈ (barCells ∪ ownCells : Finset (GSem nD τ sig)) :=
  Finset.mem_union_right _ (Finset.mem_map_of_mem ownEmb (Finset.mem_univ (c, k)))

/-- The duties of the barrier cells, and of the body's own. -/
def barDuty : Dev nD × Bool ↪ GSem nD τ sig × ℕ × Bool :=
  ⟨fun cb => (bar cb.1, 0, cb.2), fun _ _ h =>
    Prod.ext (congrArg (fun t : GSem nD τ sig × ℕ × Bool => t.1.1.1) h) (congrArg (fun t : GSem nD τ sig × ℕ × Bool => t.2.2) h)⟩
def ownDuty : Dev nD × Fin 12 ↪ GSem nD τ sig × ℕ × Bool :=
  ⟨fun ck => (own ck.1 ck.2, 0, true), fun _ _ h => ownEmb.injective (congrArg Prod.fst h)⟩
def duties : Finset (GSem nD τ sig × ℕ × Bool) := Finset.univ.map barDuty ∪ Finset.univ.map ownDuty

theorem duties_disjoint : Disjoint (Finset.univ.map barDuty) (Finset.univ.map ownDuty) := by
  rw [Finset.disjoint_left]
  rintro g h₁ h₂
  obtain ⟨cb, -, rfl⟩ := Finset.mem_map.mp h₁
  obtain ⟨ck, -, h⟩ := Finset.mem_map.mp h₂
  exact osem_ne_bar ck.2 (congrArg (fun t : GSem nD τ sig × ℕ × Bool => t.1.2) h)

/-- The launch element. -/
def u₀ : UU :=
  (initOf (Pipeline.cells (Pipeline.pin (pcfgs (F := F)) adm) cellOf_inj) (Pipeline.launchToks (Pipeline.pin (pcfgs (F := F)) adm) cellOf_inj),
    launchOf barCells ownCells duties)

/-- The ring's element, all of it with device 0 until it is dealt. -/
def fund (c : Dev nD) : sProp 𝕄 := if c = 0 then BI.own (ER (launchOf barCells ownCells duties)) else iprop(emp)
theorem fund_all : bigSep Finset.univ (fund (F := F)) = BI.own (ER (launchOf barCells ownCells duties)) := by
  rw [bigSep_univ_at _ (0 : Dev nD), bigSep_congr (s := Finset.univ.erase (0 : Dev nD)) (Ψ := fun _ => (BI.emp : sProp 𝕄))
      fun c hc => by unfold fund; rw [if_neg (Finset.ne_of_mem_erase hc)]; rfl, BI.bigSep_emp_const]
  unfold fund; rw [if_pos rfl]
  exact BI.equiv_iff.mp sep_emp

/-! ### The tokens, dealt to the devices that pay with them -/

/-- The neighbours as permutations of the devices, and, over all own cells, the device a cell's payer pays at. -/
def rightOf : Dev nD ≃ Dev nD := ⟨nxt, prv, prv_nxt, nxt_prv⟩
def payee : Dev nD × Fin 12 ≃ Dev nD × Fin 12 where
  toFun p := (tgt p.1 p.2, p.2)
  invFun p := (if p.2.val < 3 ∨ (6 ≤ p.2.val ∧ p.2.val < 9) then p.1 else prv p.1, p.2)
  left_inv p := by
    refine Prod.ext ?_ rfl
    dsimp only
    unfold tgt
    split
    · rfl
    · exact prv_nxt p.1
  right_inv p := by
    refine Prod.ext ?_ rfl
    dsimp only
    unfold tgt
    split
    · rfl
    · exact nxt_prv p.1

theorem toks_dealt : bigSep duties (fun t => (dutyTok ER t.1 t.2.1 t.2.2 : sProp 𝕄)) ⊢ bigSep Finset.univ fun c : Dev nD => toks c := by
  have hb : bigSep (Finset.univ.map barDuty) (fun t => (dutyTok ER t.1 t.2.1 t.2.2 : sProp 𝕄))
      = iprop((bigSep Finset.univ fun c : Dev nD => dutyTok ER (bar (prv c)) 0 true) ∗ bigSep Finset.univ fun c : Dev nD => dutyTok ER (bar (nxt c)) 0 false) := by
    rw [bigSep_map, bigSep_univ_prod, bigSep_univ_comm, show (Finset.univ : Finset Bool) = {true, false} from by decide, bigSep_insert (by decide), bigSep_singleton,
      bigSep_univ_equiv rightOf (fun c : Dev nD => (dutyTok ER (barDuty (c, false)).1 (barDuty (c, false)).2.1 (barDuty (c, false)).2.2 : sProp 𝕄)),
      bigSep_univ_equiv rightOf.symm (fun c : Dev nD => (dutyTok ER (barDuty (c, true)).1 (barDuty (c, true)).2.1 (barDuty (c, true)).2.2 : sProp 𝕄))]
    rfl
  have ho : bigSep (Finset.univ.map ownDuty) (fun t => (dutyTok ER t.1 t.2.1 t.2.2 : sProp 𝕄))
      = bigSep Finset.univ fun c : Dev nD => bigSep Finset.univ fun k : Fin 12 => dutyTok ER (own (tgt c k) k) 0 true := by
    rw [bigSep_map, bigSep_univ_equiv payee, bigSep_univ_prod]
    rfl
  unfold duties toks
  rw [bigSep_union duties_disjoint, hb, ho, bigSep_sep', bigSep_sep']
  show iprop((_ ∗ _) ∗ _) ⊢ iprop(_ ∗ _ ∗ _)
  iintro ⟨⟨H1, H2⟩, H3⟩
  isplitl [H1]; · iexact H1
  isplitl [H2] <;> iassumption

/-! ### The credits -/

/-- What device `d` owes a cell, summed over what it owes. -/
theorem owe_apply (d : Dev nD) (n : ℕ) (g : GSem nD τ sig) : owe d n g () = ∑ i ∈ Finset.range n, if g = due d i then dueAmt i else 0 := by
  induction n with
  | zero => rfl
  | succ n ih =>
    rw [Finset.sum_range_succ, ← ih]
    show owe d n g () + tallyAt (due d n) () (dueAmt n) g () = _
    rw [tallyAt_apply]
    by_cases h : g = due d n
    · rw [if_pos ⟨h, rfl⟩, if_pos h]
    · rw [if_neg (fun h' => h h'.1), if_neg h]

theorem bar_ne_own (c d : Dev nD) (k : Fin 12) : bar c ≠ own d k := fun h => osem_ne_bar k (congrArg Prod.snd h).symm
theorem bar_eq {c d : Dev nD} : bar c = bar d ↔ c = d := ⟨fun h => barEmb.injective h, fun h => h ▸ rfl⟩
theorem own_eq {c d : Dev nD} {k j : Fin 12} : own c k = own d j ↔ c = d ∧ k = j :=
  ⟨fun h => Prod.mk.inj (ownEmb.injective (a₁ := (c, k)) (a₂ := (d, j)) h), fun h => by rw [h.1, h.2]⟩

theorem owe_bar (d c : Dev nD) : owe d 8 (bar c) () = (if d = prv c then 1 else 0) + if d = nxt c then 1 else 0 := by
  rw [owe_apply]
  simp only [Finset.sum_range_succ, Finset.sum_range_zero, due, dueAmt, bar_ne_own, bar_eq, if_false, zero_add]
  have h : ∀ c d : Dev nD, (c = nxt d ↔ d = prv c) ∧ (c = prv d ↔ d = nxt c) := by decide
  simp only [(h c d).1, (h c d).2]

/-- The own cells that the left neighbour's copies land on. -/
theorem owe_own (d c : Dev nD) (k : Fin 12) (hk : k = 3 ∨ k = 4 ∨ k = 5 ∨ k = 9 ∨ k = 10 ∨ k = 11) :
    owe d 8 (own c k) () = if d = prv c then amt k else 0 := by
  have h : ∀ c d : Dev nD, c = nxt d ↔ d = prv c := by decide
  rw [owe_apply]
  rcases hk with rfl | rfl | rfl | rfl | rfl | rfl <;>
    simp only [Finset.sum_range_succ, Finset.sum_range_zero, due, dueAmt, (bar_ne_own _ _ _).symm, own_eq, if_false, zero_add, Fin.reduceEq, and_false, and_true, add_zero, h]

theorem credit_bar (c : Dev nD) :
    tallyOn (bar c) (launchCredit (Pipeline.owing fun d => owe d 8) 0 (bar c)) = (tallyAt (bar c) () 2 : CellTallies nD τ sig Unit) := by
  unfold tallyAt; refine congrArg _ (Finsupp.ext fun u => ?_); cases u
  rw [Pipeline.launchCredit_owing, Finsupp.single_eq_same, Finset.sum_congr rfl fun d _ => owe_bar d c, Finset.sum_add_distrib,
    Finset.sum_ite_eq' Finset.univ (prv c) fun _ => 1, Finset.sum_ite_eq' Finset.univ (nxt c) fun _ => 1, if_pos (Finset.mem_univ _),
    if_pos (Finset.mem_univ _)]

theorem credit_own (c : Dev nD) (k : Fin 12) (hk : k = 3 ∨ k = 4 ∨ k = 5 ∨ k = 9 ∨ k = 10 ∨ k = 11) :
    tallyOn (own c k) (launchCredit (Pipeline.owing fun d => owe d 8) 0 (own c k)) = (tallyAt (own c k) () (amt k) : CellTallies nD τ sig Unit) := by
  unfold tallyAt; refine congrArg _ (Finsupp.ext fun u => ?_); cases u
  rw [Pipeline.launchCredit_owing, Finsupp.single_eq_same, Finset.sum_congr rfl fun d _ => owe_own d c k hk,
    Finset.sum_ite_eq' Finset.univ (prv c) fun _ => amt k, if_pos (Finset.mem_univ _)]

/-- The cells device `c` waits on for others' payments, in the order `creds` lists them. -/
def waited : Fin 7 → SemLoc sig
  | 0 => .reg barrier0
  | 1 => osem 3
  | 2 => osem 9
  | 3 => osem 4
  | 4 => osem 10
  | 5 => osem 5
  | 6 => osem 11
theorem waited_inj : Function.Injective waited := by decide

theorem creds_dealt (c : Dev nD) : (Pipeline.launchCred (fun d => owe d 8) c : sProp 𝕄) ⊢ creds c := by
  unfold Pipeline.launchCred creds
  refine (bigSep_subset (Finset.subset_univ (Finset.univ.map ⟨waited, waited_inj⟩))).trans ?_
  rw [bigSep_map, bigSep_univ_eq_bigSepL [(0 : Fin 7), 1, 2, 3, 4, 5, 6] (by decide) (by decide)]
  rw [← credit_bar c, ← credit_own c 3 (by decide), ← credit_own c 9 (by decide), ← credit_own c 4 (by decide), ← credit_own c 10 (by decide),
    ← credit_own c 5 (by decide), ← credit_own c 11 (by decide)]
  exact BI.Entails.refl _

/-! ### Everything dealt -/

theorem split_all {Φ Ψ : Dev nD → sProp 𝕄} :
    (bigSep Finset.univ fun c => iprop(Φ c ∗ Ψ c)) ⊢ iprop(bigSep Finset.univ Φ ∗ bigSep Finset.univ Ψ) := by rw [← bigSep_sep']
theorem join_all {Φ Ψ : Dev nD → sProp 𝕄} :
    iprop(bigSep Finset.univ Φ ∗ bigSep Finset.univ Ψ) ⊢ (bigSep Finset.univ fun c => iprop(Φ c ∗ Ψ c)) := by rw [← bigSep_sep']

/-- What every device may consult. -/
def records (κ : GSem nD τ sig → ℕ) : sProp 𝕄 :=
  iprop((bigSep (barCells ∪ ownCells) fun g => cellInv ER (Rd (wqOf m) (woOf m)) (κ g) g) ∗ bigSep barCells fun g => reached ER g 0)

instance records_persistent (κ : GSem nD τ sig → ℕ) : Persistent (records m κ) := by unfold records; infer_instance

theorem inv_at (κ : GSem nD τ sig → ℕ) {g : GSem nD τ sig} (hg : g ∈ (barCells ∪ ownCells : Finset (GSem nD τ sig))) :
    (bigSep (barCells ∪ ownCells) fun g => (cellInv ER (Rd (wqOf m) (woOf m)) (κ g) g : sProp 𝕄)) ⊢ cellInv ER (Rd (wqOf m) (woOf m)) (κ g) g :=
  bigSep_elim hg
theorem invs_at (κ : GSem nD τ sig → ℕ) (c : Dev nD) :
    (bigSep (barCells ∪ ownCells) fun g => (cellInv ER (Rd (wqOf m) (woOf m)) (κ g) g : sProp 𝕄))
      ⊢ bigSep Finset.univ fun k : Fin 12 => cellInv ER (Rd (wqOf m) (woOf m)) (κ (own c k)) (own c k) := by
  refine (bigSep_subset (t := Finset.univ.map ⟨own c, fun k j h => (own_eq.mp h).2⟩) fun g hg => ?_).trans (Entails.of_eq (bigSep_map _))
  obtain ⟨k, -, rfl⟩ := Finset.mem_map.mp hg
  exact own_mem c k
theorem reached_at (c : Dev nD) : (bigSep barCells fun g => (reached ER g 0 : sProp 𝕄)) ⊢ reached ER (bar c) 0 :=
  bigSep_elim (Finset.mem_map_of_mem barEmb (Finset.mem_univ c))

/-- What stays with device `c`. -/
def linear (c : Dev nD) : sProp 𝕄 :=
  iprop(atPos ER (bar c) 0 ∅ 0 ∗ (bigSep Finset.univ fun k : Fin 12 => openTok ER (own c k)) ∗ toks c)

theorem ghost_intro (κ : GSem nD τ sig → ℕ) (c : Dev nD) : iprop(records m κ ∗ linear c) ⊢ iprop(∃ K, ghost (wqOf m) (woOf m) K c) := by
  unfold records linear ghost invs
  iintro ⟨⟨#HI, #HR⟩, Ha, Ho, Ht⟩
  iexists κ
  isplitr
  · isplitr; · iapply (inv_at m κ (bar_mem c)); iexact HI
    isplitr; · iapply (inv_at m κ (bar_mem (prv c))); iexact HI
    isplitr; · iapply (inv_at m κ (bar_mem (nxt c))); iexact HI
    isplitr; · iapply (invs_at m κ c); iexact HI
    iapply (invs_at m κ (nxt c)); iexact HI
  isplitl [Ha]; · iexact Ha
  isplitl [Ho]; · iexact Ho
  isplitr
  · isplitr; · iapply (reached_at (F := F) (prv c)); iexact HR
    iapply (reached_at (F := F) (nxt c)); iexact HR
  iexact Ht

/-- What of a device's launch holdings is not the ring's ghost state. -/
def bundle (c : Dev nD) : sProp 𝕄 :=
  iprop(StableHlo.held (c : Thread nD τ) (Pipeline.ucRefs τ sig) (V0 m c) ∗ creds c ∗ (∃ r, prngReg c r) ∗ owes (c : Thread nD τ) (owe c 8) ∅)

/-- What device `c` starts `@main` with. -/
abbrev start (c : Dev nD) : sProp 𝕄 := iprop(StableHlo.held (c : Thread nD τ) (Pipeline.ucRefs τ sig) (V0 m c) ∗ ride m 0 c)

theorem start_intro (κ : GSem nD τ sig → ℕ) (c : Dev nD) : iprop(records m κ ∗ (linear c ∗ bundle m c)) ⊢ start m c := by
  unfold bundle start ride carried owing
  iintro ⟨#HR, Hl, Hh, Hcr, Hp, HO⟩
  isplitl [Hh]; · iexact Hh
  isplitl [Hl Hcr]
  · isplitl [Hl]
    · iapply (ghost_intro m κ c)
      isplitr; · iexact HR
      iexact Hl
    iexact Hcr
  isplitl [Hp]; · iexact Hp
  iexists ∅; iexact HO

/-- The one counter that is not scoped is the barrier's. -/
theorem unscoped_bar : ∀ sm : SemLoc sig, sm.isScoped .tc = false → sm = .reg barrier0 := by decide

theorem unscopedSems_eq (c : Dev nD) : (unscopedSems0 c : sProp 𝕄) = semVal (bar c) 0 := by
  unfold unscopedSems0
  rw [show (Finset.univ.filter fun sm : SemLoc sig => ¬ sm.isScoped .tc) = {SemLoc.reg barrier0} from by decide, BI.bigSep_singleton]

theorem init :
    iprop((bigSep Finset.univ fun c : Dev nD => iprop(unscopedBufs c (fun b => m ((c : Thread nD τ).loc b)) ∗ unscopedSems0 c
          ∗ owes (c : Thread nD τ) (owe c 8) ∅ ∗ Pipeline.launchCred (fun d => owe d 8) c ∗ prngReg c (ρ c) ∗ fund c)) ∗ levAts L lv)
      ⊢ (|={Set.univ}=> bigSep Finset.univ (start m) : sProp 𝕄) := by
  have hcore (c : Dev nD) : iprop(unscopedBufs c (fun b => m ((c : Thread nD τ).loc b)) ∗ unscopedSems0 c
        ∗ owes (c : Thread nD τ) (owe c 8) ∅ ∗ Pipeline.launchCred (fun d => owe d 8) c ∗ prngReg c (ρ c) ∗ fund c)
      ⊢ (iprop(bundle m c ∗ (semVal (bar c) 0 ∗ fund c)) : sProp 𝕄) := by
    rw [show unscopedBufs c (fun b => m ((c : Thread nD τ).loc b)) = StableHlo.held (c : Thread nD τ) (Pipeline.ucRefs τ sig) (V0 m c)
      from Pipeline.unscopedBufs_held c (V0 m c), unscopedSems_eq]
    unfold bundle
    iintro ⟨Hh, Hus, HO, Hcr, Hp, HG⟩
    isplitl [Hh HO Hcr Hp]
    · isplitl [Hh]; · iexact Hh
      isplitl [Hcr]; · iapply (creds_dealt c) $$ Hcr
      isplitl [Hp]; · iexists (ρ c); iexact Hp
      iexact HO
    isplitl [Hus] <;> iassumption
  have hv : bigSep Finset.univ (fun c : Dev nD => (semVal (bar c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bar c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun k : Fin 12 => openTok ER (own c k)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
        ∗ owes (c : Thread nD τ) (owe c 8) ∅ ∗ Pipeline.launchCred (fun d => owe d 8) c ∗ prngReg c (ρ c) ∗ fund c))
      ⊢ (bigSep Finset.univ fun c : Dev nD => iprop(bundle m c ∗ (semVal (bar c) 0 ∗ fund c)) : sProp 𝕄) from bigSep_mono fun c _ => hcore c) $$ H
  ihave H2 := split_all $$ H'; icases H2 with ⟨HB, H3⟩
  ihave H4 := split_all $$ H3; icases H4 with ⟨Hv, HG⟩
  ihave Hu := (Entails.of_eq (fund_all (F := F))) $$ HG
  imod (Rounds.fund_launch ER (Rd (wqOf m) (woOf m)) cells_disjoint (fun g _ h => h) duties) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => start_intro m κ c)
  isplitr
  · unfold records
    isplitr; · iexact Hinv
    iexact Hr
  iapply join_all
  isplitr [HB]
  · unfold linear
    iapply join_all; isplitl [Hat]; · iapply hat $$ Hat
    iapply join_all; isplitl [Hopen]; · iapply hopen $$ Hopen
    iapply (toks_dealt (F := F)) $$ Htok
  · iexact HB

end Cert.KernelIdeal.Hand

end
-- ==== Proof.Run.lean ====
/-
  The whole program run on the four devices: its results, its arguments unchanged, its counters at zero.
-/
module

public import proofs.«01_k».proof.Proof.Fund

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-- What device `c` ends `@main` with, besides owing nothing. -/
abbrev ended (c : Dev nD) : sProp 𝕄 :=
  iprop(StableHlo.held (c : Thread nD τ) (Pipeline.ucRefs τ sig) (V3 m (outs m) c) ∗ semVal (bar c) 0)

theorem host_end (c : Dev nD) :
    iprop(StableHlo.held (c : Thread nD τ) (Pipeline.ucRefs τ sig) (V3 m (outs m) c) ∗ ride m 1 c)
      ⊢ iprop(ended m c ∗ ∃ W, owes (c : Thread nD τ) (0 : CellTallies nD τ sig Unit) W) := by
  unfold ride owing
  iintro ⟨Hh, Hb, HO⟩
  isplitr [HO]
  · isplitl [Hh] <;> iassumption
  · iexact HO

theorem own_funds : (ownU (u₀ (F := F)) : sProp 𝕄)
    ⊢ (|={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ fund) : sProp 𝕄) := by
  unfold u₀
  iintro Hu
  ihave H := (ownU_pair _ _) $$ Hu
  icases H with ⟨HP, HX⟩
  imodintro
  isplitl [HP]; · iexact HP
  rw [fund_all]; iexact HX

/-- A buffer of the program read off what is held. -/
theorem read_end (c : Dev nD) (s' : Phys nD τ sig (Elt F)) : iprop(ended m c ∗ SI s')
    ⊢ (|={Set.univ}=> iprop(⌜(∀ r ∈ Pipeline.ucRefs τ sig, s'.mem.mem ((c : Thread nD τ).1, r) = V3 m (outs m) c r) ∧ s'.mem.sem (bar c) = 0⌝ ∗ SI s') : sProp 𝕄) := by
  unfold ended StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨h, by simpa using hb⟩
  iexact HSI

theorem listed (r : Ref sig .tc) (h : ¬ (Proc.devRef (τ := τ) .tc r).isScoped) : Proc.devRef (τ := τ) .tc r ∈ Pipeline.ucRefs τ sig :=
  Finset.mem_filter.mpr ⟨StableHlo.devRef_mem_tcRefs r, h⟩

set_option backward.isDefEq.respectTransparency.types false in
/-- From any memory with zero counters every weakly fair execution on the four devices terminates. Every final state has the
    result that the three segments compute, the arguments unchanged, and every semaphore counter at zero. -/
theorem run_main : θ_run defs (onTc (τ := τ) (main (F := F))) ⟨m, fun _ => 0, ρ⟩
    (fun r => (∀ c : Dev nD, r.2.mem ((c.tc : Thread nD τ).loc main_v27) = V3 m (outs m) c main_v27
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  Pipeline.θ_run_regions_kit_dev_sems (pcfgs (F := F)) adm (pdats m) () cellOf_inj EP defs₀ 𝒱₀ L lv m ρ main
    (segs m (outs m) 𝒱₀ L lv (ride m) () (pdats m) (region m))
    (fun c Q => by
      rewrite [main_chain c, Pipeline.Seg.run_eq_chain,
        show (segs m (outs m) 𝒱₀ L lv (ride m) () (pdats m) (region m) c).map Pipeline.Seg.prog = [
          StableHlo.seq (hostOps0 c), Prog.lift (.customCall (Pipeline.entry 0) ()), StableHlo.seq hostOps1] from rfl]
      dsimp (config := { failIfUnchanged := false }) only
      exact .rfl)
    (fun c => by simp only [segs, Pipeline.Seg.pipes_host, Pipeline.Seg.pipes_region, Pipeline.Seg.pipes_nil]; decide)
    (fun d => owe d 8) L_of_ne fund u₀ own_funds
    (T₀ := start m) (Tₙ := ended m)
    (hch := fun c => ⟨.rfl, region_pre m c, region_post m c, host_end m c⟩)
    (hinit := init m ρ)
    (QY := fun c s => (∀ r ∈ Pipeline.ucRefs τ sig, s.mem ((c : Thread nD τ).1, r) = V3 m (outs m) c r) ∧ s.sem (bar c) = 0)
    (hfin := read_end m)
    (hQ := fun s h hs => ⟨fun c => ⟨(h c).1 _ (listed main_v27 (by decide)),
        ((h c).1 _ (listed main_arg0 (by decide))).trans (V3_main_arg0 m (outs m) c),
        ((h c).1 _ (listed main_arg1 (by decide))).trans (V3_main_arg1 m (outs m) c),
        ((h c).1 _ (listed main_arg2 (by decide))).trans (V3_main_arg2 m (outs m) c),
        ((h c).1 _ (listed main_arg3 (by decide))).trans (V3_main_arg3 m (outs m) c),
        ((h c).1 _ (listed main_arg4 (by decide))).trans (V3_main_arg4 m (outs m) c)⟩,
      sem_eq_zero hs fun c sm hsm => by
        obtain rfl := unscoped_bar sm hsm
        exact (h c).2⟩)

end Cert.KernelIdeal.Hand

end
-- ==== Proof.KerStages.lean ====
/-
  What the kernel's host operations around the call do to an array, over any floats.
-/
module

public import proofs.«01_k».proof.Proof.Region
public import Idealize.ShloMosaic.Lib.StableHlo.RunClose

@[expose] public section

set_option maxRecDepth 65536

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Device `c`'s number modulo 4, as the host computes it. -/
def devNo (c : Dev nD) : IVec S_ 32 :=
  Host.remui (Host.divui (constantI S_ 32 (Dev.word c)) (constantI S_ 32 1#32)) (constantI S_ 32 4#32)

/-- The first of the two batches of device `c`, as the host computes it. -/
def firstBatch (c : Dev nD) : IVec S_ 32 :=
  select (cmpi .slt (muli (devNo c) (constantI S_ 32 2#32)) (constantI S_ 32 0#32))
    (addi (muli (devNo c) (constantI S_ 32 2#32)) (constantI S_ 32 8#32))
    (muli (devNo c) (constantI S_ 32 2#32))

/-- The two batches of device `c` out of all eight. -/
def batches (c : Dev nD) (k : Vec F S8x512x32x64 .f32) : Vec F S2x512x32x64 .f32 :=
  Host.dynamicSlice S2x512x32x64 k
    (fun a => ((![firstBatch c, constantI S_ 32 0#32, constantI S_ 32 0#32, constantI S_ 32 0#32] : Fin 4 → IVec S_ 32) a
      (Shape.Idx.first h_S_)).toInt) sliceFits_S8x512x32x64_S2x512x32x64

/-- The rows regrouped so that rows that attend to one another lie together. -/
def regroup (x : Vec F S2x512x768 .f32) : Vec F S1024x768 .f32 :=
  shapeCast S1024x768
    (transpose S2x4x2x64x768 [0, 2, 1, 3, 4] (shapeCast S2x2x4x64x768 x shapeCasts_S2x512x768_S2x2x4x64x768)
      transposes_S2x2x4x64x768_S2x4x2x64x768_0_2_1_3_4) shapeCasts_S2x4x2x64x768_S1024x768

/-- The same of keys or values, their heads split into four groups of eight. -/
def regroupHeads (k : Vec F S2x512x32x64 .f32) : Vec F S4x1024x512 .f32 :=
  shapeCast S4x1024x512
    (transpose S4x2x4x2x64x8x64 [4, 0, 2, 1, 3, 5, 6]
      (shapeCast S2x2x4x64x4x8x64 k shapeCasts_S2x512x32x64_S2x2x4x64x4x8x64)
      transposes_S2x2x4x64x4x8x64_S4x2x4x2x64x8x64_4_0_2_1_3_5_6) shapeCasts_S4x2x4x2x64x8x64_S4x1024x512

/-- The rows put back in their order. -/
def ungroup (o : Vec F S1024x768 .f32) : Vec F S2x512x768 .f32 :=
  shapeCast S2x512x768
    (transpose S2x2x4x64x768 [0, 2, 1, 3, 4] (shapeCast S2x4x2x64x768 o shapeCasts_S1024x768_S2x4x2x64x768)
      transposes_S2x4x2x64x768_S2x2x4x64x768_0_2_1_3_4) shapeCasts_S2x2x4x64x768_S2x512x768

/-- The call's first operand is the regrouped input. -/
theorem after_x (c : Dev nD) (V : Valuation τ sig (Elt F)) :
    StableHlo.after (hostOps0 c) V (main_v17 : DevRef τ sig) = regroup (V (main_arg0 : DevRef τ sig)) := by
  after_results
  rfl

/-- The call's key operand is the regrouped keys of the device's batches. -/
theorem after_k (c : Dev nD) (V : Valuation τ sig (Elt F)) :
    StableHlo.after (hostOps0 c) V (main_v20 : DevRef τ sig) = regroupHeads (batches c (V (main_arg2 : DevRef τ sig))) := by
  after_results_entrywise []

/-- The call's value operand is the regrouped values of the device's batches. -/
theorem after_v (c : Dev nD) (V : Valuation τ sig (Elt F)) :
    StableHlo.after (hostOps0 c) V (main_v23 : DevRef τ sig) = regroupHeads (batches c (V (main_arg3 : DevRef τ sig))) := by
  after_results_entrywise []

/-- The program's result is the call's result with its rows put back. -/
theorem after_out (V : Valuation τ sig (Elt F)) :
    StableHlo.after hostOps1 V (main_v27 : DevRef τ sig) = ungroup (V (main_v24 : DevRef τ sig)) := by
  after_results
  rfl

theorem xOf_eq (c : Dev nD) : xOf m c = regroup (m ((c.tc : Thread nD τ).loc main_arg0)) := after_x c (V0 m c)

theorem kOf_eq (c : Dev nD) : kOf m c = regroupHeads (batches c (m ((c.tc : Thread nD τ).loc main_arg2))) :=
  after_k c (V0 m c)

theorem vOf_eq (c : Dev nD) : vOf m c = regroupHeads (batches c (m ((c.tc : Thread nD τ).loc main_arg3))) :=
  after_v c (V0 m c)

theorem wqOf_eq (c : Dev nD) : wqOf m c = m ((c.tc : Thread nD τ).loc main_arg1) := V1_of m c main_arg1 (by decide)

theorem woOf_eq (c : Dev nD) : woOf m c = m ((c.tc : Thread nD τ).loc main_arg4) := V1_of m c main_arg4 (by decide)

theorem final_eq (c : Dev nD) : V3 m (outs m) c main_v27 = ungroup (outOf m c) := by
  have h : V2 m (outs m) c main_v24 = outOf m c := by
    rw [← outs_v24 m c]
    exact Function.update_self _ _ _
  exact (after_out _).trans (congrArg ungroup h)

end Cert.KernelIdeal.Hand
-- ==== Proof.Softmax.lean ====
/-
  The weighted average that attention computes, over the extended reals: `average f v` weighs the values `v` by the
  exponentials of the scores `f` less the greatest of them, each divided by the exponentials' sum. Where the scores off
  a subset are −∞ and the scores on it are real numbers, the average over the whole is the average over the subset.
-/
module

public import Idealize.ShloMosaic.Lib.Pointwise

@[expose] public section

noncomputable section

namespace Cert.Average

open Idealize.ShloMosaic

/-- The values `v` averaged by the weights that the scores `f` give. -/
def average {ι : Type} [Fintype ι] (f v : ι → EReal) : EReal :=
  ∑ t, v t * Ideal.div (Ideal.exp (f t - Finset.univ.fold max ⊥ f)) (∑ u, Ideal.exp (f u - Finset.univ.fold max ⊥ f))

/-- An exponential is not negative. -/
theorem exp_nonneg (x : EReal) : 0 ≤ Ideal.exp x := by
  induction x with
  | bot => exact le_of_eq Ideal.exp_bot.symm
  | top => simp
  | coe r => simpa using (Real.exp_pos r).le

/-- The greatest of the scores as a supremum. -/
theorem fold_max {ι : Type} (s : Finset ι) (f : ι → EReal) : s.fold max ⊥ f = s.sup f := rfl

variable {ι κ : Type} [Fintype ι] [Fintype κ] [Nonempty κ]

/-- Zero divided by what is not zero. -/
theorem zero_over {y : EReal} (h : y ≠ 0) : Ideal.div 0 y = 0 := by
  unfold Ideal.div
  rw [if_neg h, zero_mul]

/-- Of real scores the exponentials' sum is not zero: the greatest score contributes 1. -/
theorem sum_ne_zero (g : κ → ℝ) :
    (∑ i, Ideal.exp ((g i : EReal) - Finset.univ.fold max ⊥ fun j => (g j : EReal))) ≠ 0 := by
  obtain ⟨i, -, hi⟩ := Finset.exists_max_image (Finset.univ : Finset κ) g Finset.univ_nonempty
  have hm : (Finset.univ.fold max ⊥ fun j => (g j : EReal)) = (g i : EReal) := by
    rw [fold_max]
    refine le_antisymm (Finset.sup_le fun j hj => ?_) (Finset.le_sup (f := fun j => (g j : EReal)) (Finset.mem_univ i))
    exact EReal.coe_le_coe_iff.mpr (hi j hj)
  have h1 : (1 : EReal) ≤ ∑ i, Ideal.exp ((g i : EReal) - Finset.univ.fold max ⊥ fun j => (g j : EReal)) := by
    refine le_trans ?_ (Finset.single_le_sum (f := fun i => Ideal.exp ((g i : EReal) - Finset.univ.fold max ⊥ fun j => (g j : EReal)))
      (fun j _ => exp_nonneg _) (Finset.mem_univ i))
    rw [hm, ← EReal.coe_sub, sub_self, Ideal.exp_coe, Real.exp_zero, EReal.coe_one]
  exact fun h => absurd (h ▸ h1) (by norm_num)

/-- Scores that are −∞ off the range of `e`, and real on it, average as their restriction along `e` does. -/
theorem average_restrict (e : κ → ι) (he : Function.Injective e) (f v : ι → EReal) (g : κ → ℝ)
    (hon : ∀ i, f (e i) = (g i : EReal)) (hoff : ∀ t, t ∉ Set.range e → f t = ⊥) :
    average f v = average (fun i => f (e i)) (fun i => v (e i)) := by
  have hm : Finset.univ.fold max ⊥ f = Finset.univ.fold max ⊥ fun i => f (e i) := by
    rw [fold_max, fold_max]
    refine le_antisymm (Finset.sup_le fun t _ => ?_) (Finset.sup_le fun i _ => Finset.le_sup (f := f) (Finset.mem_univ (e i)))
    by_cases ht : t ∈ Set.range e
    · obtain ⟨i, rfl⟩ := ht
      exact Finset.le_sup (f := fun i => f (e i)) (Finset.mem_univ i)
    · rw [hoff t ht]
      exact bot_le
  have h0 : ∀ t, t ∉ Set.range e → Ideal.exp (f t - Finset.univ.fold max ⊥ fun i => f (e i)) = 0 := by
    intro t ht
    rw [hoff t ht, EReal.bot_sub, Ideal.exp_bot]
  have hs : (∑ u, Ideal.exp (f u - Finset.univ.fold max ⊥ fun i => f (e i)))
      = ∑ i, Ideal.exp (f (e i) - Finset.univ.fold max ⊥ fun i => f (e i)) :=
    (Fintype.sum_of_injective e he _ _ h0 fun _ => rfl).symm
  have hne : (∑ i, Ideal.exp (f (e i) - Finset.univ.fold max ⊥ fun i => f (e i))) ≠ 0 := by
    simp only [hon]
    exact sum_ne_zero g
  unfold average
  rw [hm, hs]
  refine (Fintype.sum_of_injective e he _ _ (fun t ht => ?_) fun _ => rfl).symm
  rw [h0 t ht, zero_over hne, mul_zero]

/-- The score of query row `s` against key row `t` in batch `b` and head `h`: the projected query times the key, over 8. -/
def score (x : FVec Ideal ⟨3, ![8, 512, 768]⟩ .f32) (wq : FVec Ideal ⟨2, ![768, 2048]⟩ .f32)
    (k : FVec Ideal ⟨4, ![8, 512, 32, 64]⟩ .f32) (b : Fin 8) (h : Fin 32) (s t : Fin 512) : EReal :=
  (∑ d : Fin 64, (∑ i : Fin 768, x (ix3 b s i) * wq (ix2 i ⟨h.val * 64 + d.val, by omega⟩)) * k (ix4 b t h d))
    * Ideal.ofBits .f32 0x3E000000#32

/-- The scores of query row `s` under the mask: −∞ against a row whose 64-row block differs from `s`'s modulo 4. -/
def kept (x : FVec Ideal ⟨3, ![8, 512, 768]⟩ .f32) (wq : FVec Ideal ⟨2, ![768, 2048]⟩ .f32)
    (k : FVec Ideal ⟨4, ![8, 512, 32, 64]⟩ .f32) (b : Fin 8) (h : Fin 32) (s t : Fin 512) : EReal :=
  if s.val / 64 % 4 = t.val / 64 % 4 then score x wq k b h s t else ⊥

/-- The row of all 512 that is row `t` of the 128 whose block is `g` modulo 4. -/
def rowOf (g : Fin 4) (t : Fin 128) : Fin 512 := ⟨t.val / 64 * 256 + g.val * 64 + t.val % 64, by omega⟩

theorem rowOf_injective (g : Fin 4) : Function.Injective (rowOf g) := fun a b h => by
  have := congrArg Fin.val h
  simp only [rowOf] at this
  exact Fin.ext (by omega)

theorem rowOf_block (g : Fin 4) (t : Fin 128) : (rowOf g t).val / 64 % 4 = g.val := by
  simp only [rowOf]; omega

theorem mem_rowOf (g : Fin 4) (t : Fin 512) (h : t.val / 64 % 4 = g.val) : t ∈ Set.range (rowOf g) :=
  ⟨⟨t.val / 256 * 64 + t.val % 64, by omega⟩, Fin.ext (by simp only [rowOf]; omega)⟩

/-- Where the scores are real numbers, the masked average over all rows is the average over the 128 rows of the query
    row's group. -/
theorem average_kept (x : FVec Ideal ⟨3, ![8, 512, 768]⟩ .f32) (wq : FVec Ideal ⟨2, ![768, 2048]⟩ .f32)
    (k : FVec Ideal ⟨4, ![8, 512, 32, 64]⟩ .f32) (b : Fin 8) (h : Fin 32) (s : Fin 512) (g : Fin 4)
    (hg : s.val / 64 % 4 = g.val) (hreal : ∀ t, ∃ y : ℝ, score x wq k b h s t = (y : EReal)) (v : Fin 512 → EReal) :
    average (kept x wq k b h s) v
      = average (fun t : Fin 128 => score x wq k b h s (rowOf g t)) (fun t => v (rowOf g t)) := by
  have hon : ∀ t : Fin 128, kept x wq k b h s (rowOf g t) = score x wq k b h s (rowOf g t) := fun t =>
    if_pos (hg.trans (rowOf_block g t).symm)
  choose y hy using hreal
  rw [average_restrict (rowOf g) (rowOf_injective g) (kept x wq k b h s) v (fun t => y (rowOf g t))
    (fun t => (hon t).trans (hy _)) fun t ht => if_neg fun e => ht (mem_rowOf g t (e.symm.trans hg))]
  simp only [hon]

/-- A finite sum of real numbers is a real number. -/
theorem real_sum {ι : Type} (s : Finset ι) (f : ι → EReal) (h : ∀ i ∈ s, ∃ y : ℝ, f i = (y : EReal)) :
    ∃ y : ℝ, ∑ i ∈ s, f i = (y : EReal) := by
  classical
  induction s using Finset.induction_on with
  | empty => exact ⟨0, by simp⟩
  | insert a s ha ih =>
    obtain ⟨y, hy⟩ := ih fun i hi => h i (Finset.mem_insert_of_mem hi)
    obtain ⟨z, hz⟩ := h a (Finset.mem_insert_self a s)
    exact ⟨z + y, by rw [Finset.sum_insert ha, hy, hz, EReal.coe_add]⟩

theorem real_mul {a b : EReal} (ha : ∃ y : ℝ, a = (y : EReal)) (hb : ∃ y : ℝ, b = (y : EReal)) :
    ∃ y : ℝ, a * b = (y : EReal) := by
  obtain ⟨y, rfl⟩ := ha
  obtain ⟨z, rfl⟩ := hb
  exact ⟨y * z, (EReal.coe_mul y z).symm⟩

/-- The scale of the scores is a real number. -/
theorem real_scale : ∃ y : ℝ, Ideal.ofBits .f32 0x3E000000#32 = (y : EReal) := by
  simp [Ideal.ofBits, Ideal.ieee, -EReal.coe_mul]

/-- The scores of finite factors are real numbers. -/
theorem real_score (x : FVec Ideal ⟨3, ![8, 512, 768]⟩ .f32) (wq : FVec Ideal ⟨2, ![768, 2048]⟩ .f32)
    (k : FVec Ideal ⟨4, ![8, 512, 32, 64]⟩ .f32) (hx : ∀ i, ∃ y : ℝ, x i = (y : EReal))
    (hw : ∀ i, ∃ y : ℝ, wq i = (y : EReal)) (hk : ∀ i, ∃ y : ℝ, k i = (y : EReal)) (b : Fin 8) (h : Fin 32)
    (s t : Fin 512) : ∃ y : ℝ, score x wq k b h s t = (y : EReal) :=
  real_mul (real_sum _ _ fun _ _ => real_mul (real_sum _ _ fun _ _ => real_mul (hx _) (hw _)) (hk _)) real_scale

end Cert.Average
-- ==== Proof.KerValue.lean ====
/-
  The kernel's result read at an index, at the ideal instance.
-/
module

public import proofs.«01_k».proof.Proof.KerStages
public import proofs.«01_k».proof.Proof.Softmax

@[expose] public section

set_option maxRecDepth 16384

noncomputable section

namespace Cert.KernelIdeal.Hand

open Cert.KernelIdeal Cert.KernelIdeal.Gen Idealize.ShloMosaic Idealize.ShloMosaic.TcCoe Idealize.SL.Sem
open Cert.Average

/-! ## The host's regroupings -/

section
variable {F : FTy → Type} [FloatOps F]

/-- The row of the input that the regrouped row `r` holds. -/
def seqOf (r : Fin 1024) : Fin 512 := ⟨r.val / 64 % 2 * 256 + r.val / 128 % 4 * 64 + r.val % 64, by omega⟩

/-- Which of the device's two batches the regrouped row `r` belongs to. -/
def halfOf (r : Fin 1024) : Fin 2 := ⟨r.val / 512, by omega⟩

theorem regroup_apply (x : Vec F S2x512x768 .f32) (r : Fin 1024) (k : Fin 768) :
    regroup x (ix2 r k) = x (ix3 (halfOf r) (seqOf r) k) := by
  pointwise [regroup]
  rfl

theorem regroupHeads_apply (x : Vec F S2x512x32x64 .f32) (j : Fin 4) (r : Fin 1024) (l : Fin 512) :
    regroupHeads x (ix3 j r l)
      = x (ix4 (halfOf r) (seqOf r) ⟨j.val * 8 + l.val / 64, by omega⟩ ⟨l.val % 64, by omega⟩) := by
  pointwise [regroupHeads]
  rfl

/-- The regrouped row that holds row `s` of batch `b`. -/
def rowAt (b : Fin 2) (s : Fin 512) : Fin 1024 :=
  ⟨b.val * 512 + s.val / 64 % 4 * 128 + s.val / 256 * 64 + s.val % 64, by omega⟩

theorem ungroup_apply (o : Vec F S1024x768 .f32) (b : Fin 2) (s : Fin 512) (n : Fin 768) :
    ungroup o (ix3 b s n) = o (ix2 (rowAt b s) n) := by
  pointwise [ungroup]
  rfl

/-- Batch `b` of device `c`. -/
def batchOf (c : Dev nD) (b : Fin 2) : Fin 8 := ⟨c.val * 2 + b.val, by have : c.val < 4 := c.isLt; omega⟩

theorem start_batch (c : Dev nD) : Host.clampedStart S8x512x32x64 S2x512x32x64 sliceFits_S8x512x32x64_S2x512x32x64.1
    (fun a => ((![firstBatch c, constantI S_ 32 0#32, constantI S_ 32 0#32, constantI S_ 32 0#32] : Fin 4 → IVec S_ 32) a
      (Shape.Idx.first h_S_)).toInt) 0 = c.val * 2 := by
  revert c
  decide +kernel

theorem batches_apply (c : Dev nD) (k : Vec F S8x512x32x64 .f32) (b : Fin 2) (s : Fin 512) (h : Fin 32) (d : Fin 64) :
    batches c k (ix4 b s h d) = k (ix4 (batchOf c b) s h d) := by
  pointwise [batches]
  congr 2
  · exact Fin.ext (congrArg (· + b.val) (start_batch c))
  all_goals
    refine Fin.ext ?_
    refine (congrArg (· + _) (?_ : _ = 0)).trans (Nat.zero_add _)
    revert c
    decide +kernel

end

/-! ## The kernel's payloads -/

/-- One head's attention over one block of 128 rows is the average of the values under the scaled scores. -/
theorem pay1_apply (q : Vec Ideal S128x64 .f32) (k v : Vec Ideal S1x128x64 .f32) (r : Fin 128) (d : Fin 64) :
    k0_pay1 q k v (ix2 r d)
      = average (fun t : Fin 128 => (∑ i : Fin 64, (q (ix2 r i) : EReal) * k (ix3 0 t i)) * Ideal.ofBits .f32 0x3E000000#32)
          (fun t => v (ix3 0 t d)) := by
  have h : Ideal.ofBits .f32 0xFF800000#32 = ⊥ := by simp [Ideal.ofBits, Ideal.ieee]
  pointwise [k0_pay1]
  rw [h]
  unfold average
  exact Finset.sum_congr rfl fun t _ => mul_comm _ _

theorem pay61_apply (wq : Vec Ideal S768x512 .f32) (x : Vec Ideal S1024x768 .f32) (r : Fin 1024) (l : Fin 512) :
    k0_pay61 wq x (ix2 r l) = ∑ i : Fin 768, (x (ix2 r i) : EReal) * wq (ix2 i l) := by
  pointwise [k0_pay61]

theorem pay65_apply (wq : Vec Ideal S768x512 .f32) (x : Vec Ideal S1024x768 .f32) (r : Fin 1024) (l : Fin 512) :
    k0_pay65 (k0_pay64 (unslotQ wq)) x (ix2 r l) = ∑ i : Fin 768, (x (ix2 r i) : EReal) * wq (ix2 i l) := by
  pointwise [k0_pay65, k0_pay64, unslotQ]

theorem pay68_apply (wq : Vec Ideal S768x512 .f32) (x : Vec Ideal S1024x768 .f32) (r : Fin 1024) (l : Fin 512) :
    k0_pay68 (unslotQ wq) x (ix2 r l) = ∑ i : Fin 768, (x (ix2 r i) : EReal) * wq (ix2 i l) := by
  pointwise [k0_pay68, unslotQ]

theorem pay71_apply (wq : Vec Ideal S768x512 .f32) (x : Vec Ideal S1024x768 .f32) (r : Fin 1024) (l : Fin 512) :
    k0_pay71 (unslotQ wq) x (ix2 r l) = ∑ i : Fin 768, (x (ix2 r i) : EReal) * wq (ix2 i l) := by
  pointwise [k0_pay71, unslotQ]

theorem pay63_apply (wo : Vec Ideal S512x768 .f32) (t : Vec Ideal S1024x512 .f32) (r : Fin 1024) (n : Fin 768) :
    k0_pay63 wo t (ix2 r n) = ∑ l : Fin 512, (t (ix2 r l) : EReal) * wo (ix2 l n) := by
  pointwise [k0_pay63]

theorem pay67_apply (wo : Vec Ideal S512x768 .f32) (t : Vec Ideal S1024x512 .f32) (a : Vec Ideal S1024x768 .f32)
    (r : Fin 1024) (n : Fin 768) :
    k0_pay67 (unslotO wo) t a (ix2 r n) = (a (ix2 r n) : EReal) + ∑ l : Fin 512, (t (ix2 r l) : EReal) * wo (ix2 l n) := by
  pointwise [k0_pay67, unslotO]

theorem pay70_apply (wo : Vec Ideal S512x768 .f32) (t : Vec Ideal S1024x512 .f32) (a : Vec Ideal S1024x768 .f32)
    (r : Fin 1024) (n : Fin 768) :
    k0_pay70 (unslotO wo) t a (ix2 r n) = (a (ix2 r n) : EReal) + ∑ l : Fin 512, (t (ix2 r l) : EReal) * wo (ix2 l n) := by
  pointwise [k0_pay70, unslotO]

theorem pay73_apply (wo : Vec Ideal S512x768 .f32) (t : Vec Ideal S1024x512 .f32) (a : Vec Ideal S1024x768 .f32)
    (r : Fin 1024) (n : Fin 768) :
    k0_pay73 (unslotO wo) t a (ix2 r n) = (a (ix2 r n) : EReal) + ∑ l : Fin 512, (t (ix2 r l) : EReal) * wo (ix2 l n) := by
  pointwise [k0_pay73, unslotO]

/-! ## One head group's context and its share of the result -/

/-- A head group's context at row `r` and lane `l`: an average over the 128 rows of `r`'s block. -/
theorem attend_apply (q : Vec Ideal S1024x512 .f32) (k v : Vec Ideal S4x1024x512 .f32) (j : Fin 4) (r : Fin 1024)
    (l : Fin 512) :
    attend q k v j (ix2 r l)
      = average (fun t : Fin 128 => (∑ i : Fin 64, (q (ix2 r ⟨64 * (l.val / 64) + i.val, by omega⟩) : EReal)
            * k (ix3 j ⟨128 * (r.val / 128) + t.val, by omega⟩ ⟨64 * (l.val / 64) + i.val, by omega⟩))
            * Ideal.ofBits .f32 0x3E000000#32)
          (fun t => v (ix3 j ⟨128 * (r.val / 128) + t.val, by omega⟩ l)) := by
  have hr : (⟨128 * (r.val / 128) + r.val % 128, by omega⟩ : Fin 1024) = r := Fin.ext (by dsimp only; omega)
  have hl : (⟨64 * (l.val / 64) + l.val % 64, by omega⟩ : Fin 512) = l := Fin.ext (by dsimp only; omega)
  refine (pay1_apply _ _ _ _ _).trans ?_
  refine congrArg₂ average (funext fun t => ?_) (funext fun t => ?_)
  · refine congrArg (· * _) (Finset.sum_congr rfl fun i _ => congrArg (· * _) ?_)
    exact congrArg q (congrArg (fun y => ix2 y _) hr)
  · exact congrArg v (congrArg (fun y => ix3 j _ y) hl)

variable (c : Dev nD) (X : Vec Ideal ⟨3, ![8, 512, 768]⟩ .f32) (W : Vec Ideal ⟨2, ![768, 2048]⟩ .f32) (K V : Vec Ideal S8x512x32x64 .f32)
  (O : Vec Ideal ⟨2, ![2048, 768]⟩ .f32)

/-- The digits of a regrouped row's number: batch, block modulo 4, half and place in the block. -/
theorem rowAt_digits (b : Fin 2) (s : Fin 512) : (rowAt b s).val / 512 = b.val
    ∧ (rowAt b s).val / 128 = b.val * 4 + s.val / 64 % 4 ∧ (rowAt b s).val / 64 = b.val * 8 + s.val / 64 % 4 * 2 + s.val / 256
    ∧ (rowAt b s).val % 64 = s.val % 64 := by
  have h0 : s.val / 64 % 4 < 4 := by omega
  have h1 : s.val / 256 < 2 := by omega
  have h2 : s.val % 64 < 64 := by omega
  simp only [rowAt]
  generalize s.val / 64 % 4 = x at *
  generalize s.val / 256 = y at *
  generalize s.val % 64 = z at *
  omega

theorem halfOf_rowAt (b : Fin 2) (s : Fin 512) : halfOf (rowAt b s) = b := Fin.ext (rowAt_digits b s).1

theorem seqOf_rowAt (b : Fin 2) (s : Fin 512) : seqOf (rowAt b s) = s := Fin.ext (by
  obtain ⟨-, h1, h2, h3⟩ := rowAt_digits b s
  have h4 : (b.val * 8 + s.val / 64 % 4 * 2 + s.val / 256) % 2 = s.val / 256 := by
    have : s.val / 256 < 2 := by omega
    generalize s.val / 64 % 4 = x at *
    omega
  have h5 : (b.val * 4 + s.val / 64 % 4) % 4 = s.val / 64 % 4 := by omega
  simp only [seqOf, h1, h2, h3, h4, h5]
  omega)

/-- The context of head group `j` on device `c`, read at the regrouped row of row `s` of batch `b`. -/
theorem context_apply (x : Vec Ideal S2x512x768 .f32) (w : Vec Ideal S768x512 .f32) (q : Vec Ideal S1024x512 .f32)
    (j : Fin 4) (hx : ∀ b s i, x (ix3 b s i) = X (ix3 (batchOf c b) s i))
    (hw : ∀ (i : Fin 768) (l : Fin 512), w (ix2 i l) = W (ix2 i ⟨j.val * 512 + l.val, by omega⟩))
    (hq : ∀ (r : Fin 1024) (l : Fin 512), q (ix2 r l) = ∑ i : Fin 768, (regroup x (ix2 r i) : EReal) * w (ix2 i l))
    (b : Fin 2) (s : Fin 512) (l : Fin 512) :
    attend q (regroupHeads (batches c K)) (regroupHeads (batches c V)) j (ix2 (rowAt b s) l)
      = average (fun t : Fin 128 => score X W K (batchOf c b) ⟨j.val * 8 + l.val / 64, by omega⟩ s
            (rowOf ⟨s.val / 64 % 4, by omega⟩ t))
          (fun t => V (ix4 (batchOf c b) (rowOf ⟨s.val / 64 % 4, by omega⟩ t) ⟨j.val * 8 + l.val / 64, by omega⟩
            ⟨l.val % 64, by omega⟩)) := by
  have hb : ∀ t : Fin 128, halfOf ⟨128 * ((rowAt b s).val / 128) + t.val, by omega⟩ = b := fun t =>
    Fin.ext (by
      obtain ⟨-, h1, -, -⟩ := rowAt_digits b s
      simp only [halfOf, h1]
      omega)
  have hs : ∀ t : Fin 128, seqOf ⟨128 * ((rowAt b s).val / 128) + t.val, by omega⟩
      = rowOf ⟨s.val / 64 % 4, by omega⟩ t := fun t => Fin.ext (by
      obtain ⟨-, h1, -, -⟩ := rowAt_digits b s
      have h2 : s.val / 64 % 4 < 4 := by omega
      simp only [seqOf, rowOf, h1]
      generalize s.val / 64 % 4 = x at *
      omega)
  rw [attend_apply]
  refine congrArg₂ average (funext fun t => ?_) (funext fun t => ?_)
  · refine congrArg (· * _) (Finset.sum_congr rfl fun i _ => congrArg₂ (· * ·) ?_ ?_)
    · rw [hq]
      refine Finset.sum_congr rfl fun a _ => congrArg₂ (· * ·) ?_ ?_
      · rw [regroup_apply, hx, halfOf_rowAt, seqOf_rowAt]
      · rw [hw]
        exact congrArg (fun y => W (ix2 a y)) (Fin.ext (by dsimp only; omega))
    · rw [regroupHeads_apply, batches_apply, hb, hs]
      exact congrArg₂ (fun y z => K (ix4 (batchOf c b) _ y z)) (Fin.ext (by dsimp only; omega))
        (Fin.ext (by dsimp only; omega))
  · rw [regroupHeads_apply, batches_apply, hb, hs]

end Cert.KernelIdeal.Hand
-- ==== Proof.RefStages.lean ====
/-
  The reference's result as a composition of named stages, at the ideal instance.
-/
module

public import proofs.«01_k».proof.Proof.Gen.ReferenceIdeal.Run
public import Idealize.ShloMosaic.Lib.Pointwise

@[expose] public section

noncomputable section

namespace Cert.ReferenceIdeal.Hand

open Cert.ReferenceIdeal Cert.ReferenceIdeal.Gen Idealize.ShloMosaic Idealize.ShloMosaic.TcCoe Idealize.SL.Sem

/-- The word 64 in every place of a vector of 512. -/
def c64 : IVec S512 32 := broadcastInDim S512 ![] bcast_S_S512 (constantI S_ 32 64#32)

/-- The block number of each of the 512 positions: the position floor-divided by 64, as the reference writes it. -/
def blockNo : IVec S512 32 :=
  select
    (andi
      (cmpi .ne (signi (iotaInDim S512 32 0)) (broadcastInDim S512 ![] bcast_S_S512 (signi (constantI S_ 32 64#32))))
      (cmpi .ne (Host.remsi (iotaInDim S512 32 0) c64)
        (broadcastInDim S512 ![] bcast_S_S512 (constantI S_ 32 0#32))))
    (subi (Host.divsi (iotaInDim S512 32 0) c64)
      (broadcastInDim S512 ![] bcast_S_S512 (constantI S_ 32 1#32)))
    (Host.divsi (iotaInDim S512 32 0) c64)

/-- The divisor 4 of the remainders (1 were it 0), as the reference writes it. -/
def four : IVec S_ 32 :=
  select (cmpi .eq (constantI S_ 32 4#32) (constantI S_ 32 0#32)) (constantI S_ 32 1#32) (constantI S_ 32 4#32)

/-- The block numbers as a column. -/
def colNo : IVec S512x1 32 := broadcastInDim S512x1 ![0] bcast_S512_S512x1_0 blockNo

/-- The block numbers as a row. -/
def rowNo : IVec S1x512 32 := broadcastInDim S1x512 ![1] bcast_S512_S1x512_1 blockNo

/-- The row's block numbers modulo 4, as the reference writes it. -/
def rowMod : IVec S1x512 32 :=
  select
    (andi
      (cmpi .ne
        (cmpi .slt (Host.remsi rowNo (broadcastInDim S1x512 ![] bcast_S_S1x512 four))
          (broadcastInDim S1x512 ![] bcast_S_S1x512 (constantI S_ 32 0#32)))
        (broadcastInDim S1x512 ![] bcast_S_S1x512 (cmpi .slt four (constantI S_ 32 0#32))))
      (cmpi .ne (Host.remsi rowNo (broadcastInDim S1x512 ![] bcast_S_S1x512 four))
        (broadcastInDim S1x512 ![] bcast_S_S1x512 (constantI S_ 32 0#32))))
    (addi (Host.remsi rowNo (broadcastInDim S1x512 ![] bcast_S_S1x512 four))
      (broadcastInDim S1x512 ![] bcast_S_S1x512 four))
    (Host.remsi rowNo (broadcastInDim S1x512 ![] bcast_S_S1x512 four))

/-- The column's block numbers modulo 4, as the reference writes it. -/
def colMod : IVec S512x1 32 :=
  select
    (andi
      (cmpi .ne
        (cmpi .slt (Host.remsi colNo (broadcastInDim S512x1 ![] bcast_S_S512x1 four))
          (broadcastInDim S512x1 ![] bcast_S_S512x1 (constantI S_ 32 0#32)))
        (broadcastInDim S512x1 ![] bcast_S_S512x1 (cmpi .slt four (constantI S_ 32 0#32))))
      (cmpi .ne (Host.remsi colNo (broadcastInDim S512x1 ![] bcast_S_S512x1 four))
        (broadcastInDim S512x1 ![] bcast_S_S512x1 (constantI S_ 32 0#32))))
    (addi (Host.remsi colNo (broadcastInDim S512x1 ![] bcast_S_S512x1 four))
      (broadcastInDim S512x1 ![] bcast_S_S512x1 four))
    (Host.remsi colNo (broadcastInDim S512x1 ![] bcast_S_S512x1 four))

/-- The mask of the scores: same block, or block numbers equal modulo 4. -/
def mask : IVec S512x512 1 :=
  ori
    (cmpi .eq (broadcastInDim S512x512 ![0, 1] bcast_S512x1_S512x512_0_1 colNo)
      (broadcastInDim S512x512 ![0, 1] bcast_S1x512_S512x512_0_1 rowNo))
    (cmpi .eq (broadcastInDim S512x512 ![0, 1] bcast_S1x512_S512x512_0_1 rowMod)
      (broadcastInDim S512x512 ![0, 1] bcast_S512x1_S512x512_0_1 colMod))

/-- Whether a row of the mask keeps anything. -/
def rowKeep : IVec S512 1 :=
  Host.reduce IntOp.ori mask (constantI S_ 1 0#1) reducesTo_S512x512_S512_d1 h_S_

/-- The queries: `x` times `Wq`, split into heads. -/
def queries (x : FVec Ideal S8x512x768 .f32) (wq : FVec Ideal S768x2048 .f32) : FVec Ideal S8x512x32x64 .f32 :=
  shapeCast S8x512x32x64 (Host.dotGeneral dot_S8x512x768_S768x2048_S8x512x2048_2_0_01_1_n_n none x wq)
    shapeCasts_S8x512x2048_S8x512x32x64

/-- The scores: queries times keys, scaled by 1/8. -/
def scores (q k : FVec Ideal S8x512x32x64 .f32) : FVec Ideal S8x32x512x512 .f32 :=
  mulf (Host.dotGeneral dot_S8x512x32x64_S8x512x32x64_S8x32x512x512_3_3_1_1_02_02 none q k)
    (broadcastInDim S8x32x512x512 ![] bcast_S_S8x32x512x512 (constant S_ .f32 0x3E000000#32))

/-- The scores under the mask. -/
def masked (s : FVec Ideal S8x32x512x512 .f32) : FVec Ideal S8x32x512x512 .f32 :=
  select
    (broadcastInDim S8x32x512x512 ![0, 1, 2, 3] bcast_S1x1x512x512_S8x32x512x512_0_1_2_3
      (broadcastInDim S1x1x512x512 ![2, 3] bcast_S512x512_S1x1x512x512_2_3 mask))
    s (broadcastInDim S8x32x512x512 ![] bcast_S_S8x32x512x512 (constant S_ .f32 0xFF800000#32))

/-- The exponentials of the scores less their row's greatest. -/
def exps (s : FVec Ideal S8x32x512x512 .f32) : FVec Ideal S8x32x512x512 .f32 :=
  Host.exp (subf s
    (broadcastInDim S8x32x512x512 ![0, 1, 2, 3] bcast_S8x32x512x1_S8x32x512x512_0_1_2_3
      (broadcastInDim S8x32x512x1 ![0, 1, 2] bcast_S8x32x512_S8x32x512x1_0_1_2
        (Host.reduce FloatOps.maximumf s (constant S_ .f32 0xFF800000#32) reducesTo_S8x32x512x512_S8x32x512_d3 h_S_))))

/-- The exponentials divided by their row's sum. -/
def weights (e : FVec Ideal S8x32x512x512 .f32) : FVec Ideal S8x32x512x512 .f32 :=
  select
    (broadcastInDim S8x32x512x512 ![0, 1, 2, 3] bcast_S1x1x512x1_S8x32x512x512_0_1_2_3
      (broadcastInDim S1x1x512x1 ![2] bcast_S512_S1x1x512x1_2 rowKeep))
    (Host.divf e
      (broadcastInDim S8x32x512x512 ![0, 1, 2, 3] bcast_S8x32x512x1_S8x32x512x512_0_1_2_3
        (select
          (broadcastInDim S8x32x512x1 ![0, 1, 2, 3] bcast_S1x1x512x1_S8x32x512x1_0_1_2_3
            (broadcastInDim S1x1x512x1 ![2] bcast_S512_S1x1x512x1_2 rowKeep))
          (broadcastInDim S8x32x512x1 ![0, 1, 2] bcast_S8x32x512_S8x32x512x1_0_1_2
            (Host.reduceAdd e (constant S_ .f32 0x00000000#32) reducesTo_S8x32x512x512_S8x32x512_d3 h_S_))
          (broadcastInDim S8x32x512x1 ![] bcast_S_S8x32x512x1 (constant S_ .f32 0x3F800000#32)))))
    (broadcastInDim S8x32x512x512 ![] bcast_S_S8x32x512x512 (constant S_ .f32 0x00000000#32))

/-- The weighted values, the heads side by side in one axis. -/
def context (v : FVec Ideal S8x512x32x64 .f32) (w : FVec Ideal S8x32x512x512 .f32) : FVec Ideal S8x512x2048 .f32 :=
  shapeCast S8x512x2048
    (transpose S8x512x32x64 [0, 3, 1, 2]
      (Host.dotGeneral dot_S8x512x32x64_S8x32x512x512_S8x32x64x512_1_3_3_2_02_01 none v w)
      transposes_S8x32x64x512_S8x512x32x64_0_3_1_2)
    shapeCasts_S8x512x32x64_S8x512x2048

/-- The projection by `Wo`. -/
def project (t : FVec Ideal S8x512x2048 .f32) (wo : FVec Ideal S2048x768 .f32) : FVec Ideal S8x512x768 .f32 :=
  Host.dotGeneral dot_S8x512x2048_S2048x768_S8x512x768_2_0_01_1_n_n none t wo

/-- The reference's result as a function of its five arguments. -/
def result (x : FVec Ideal S8x512x768 .f32) (wq : FVec Ideal S768x2048 .f32) (k v : FVec Ideal S8x512x32x64 .f32)
    (wo : FVec Ideal S2048x768 .f32) : FVec Ideal S8x512x768 .f32 :=
  project (context v (weights (exps (masked (scores (queries x wq) k))))) wo

set_option maxRecDepth 65536 in
/-- What the run leaves in the result is the composition of the stages. -/
theorem res_eq (m : (ℓ : Loc nD τ sig) → Buf (Elt Ideal) ℓ) (c : Dev nD) :
    Value.res_main_v39 m c = result (m (c.tc.loc main_arg0)) (m (c.tc.loc main_arg1)) (m (c.tc.loc main_arg2))
      (m (c.tc.loc main_arg3)) (m (c.tc.loc main_arg4)) := by
  unfold Value.res_main_v39
  rfl

end Cert.ReferenceIdeal.Hand
-- ==== Proof.RefValue.lean ====
/-
  The reference's result read at an index.
-/
module

public import proofs.«01_k».proof.Proof.RefStages
public import proofs.«01_k».proof.Proof.Softmax

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Cert.Average

/-- The block number of position `s` is `s / 64`. -/
theorem blockNo_apply (s : Fin 512) : blockNo (ix1 s) = BitVec.ofNat 32 (s.val / 64) := by
  pointwise [blockNo, c64]
  revert s
  decide +kernel

/-- A row of the mask is set where the two positions' blocks are equal modulo 4. -/
theorem mask_apply (s t : Fin 512) : mask (ix2 s t) = BitVec.ofBool (decide (s.val / 64 % 4 = t.val / 64 % 4)) := by
  pointwise [mask, colNo, rowNo, colMod, rowMod, four]
  rw [blockNo_apply, blockNo_apply]
  have hs : s.val / 64 < 8 := by omega
  have ht : t.val / 64 < 8 := by omega
  generalize s.val / 64 = a at *
  generalize t.val / 64 = b at *
  obtain ⟨a, rfl⟩ : ∃ i : Fin 8, i.val = a := ⟨⟨a, hs⟩, rfl⟩
  obtain ⟨b, rfl⟩ : ∃ i : Fin 8, i.val = b := ⟨⟨b, ht⟩, rfl⟩
  clear hs ht
  revert a b
  decide +kernel

/-- Every row of the mask keeps something: each position keeps itself. -/
theorem rowKeep_apply (s : Fin 512) : rowKeep (ix1 s) = 1#1 := by
  pointwise [rowKeep]
  have h : mask (ix2 s s) = 1#1 := by rw [mask_apply]; simp
  rw [← Finset.insert_erase (Finset.mem_univ s), Finset.fold_insert (Finset.notMem_erase s _), h]
  exact BitVec.allOnes_or

theorem queries_apply (x : FVec Ideal S8x512x768 .f32) (wq : FVec Ideal S768x2048 .f32) (b : Fin 8) (s : Fin 512)
    (h : Fin 32) (d : Fin 64) :
    queries x wq (ix4 b s h d) = ∑ i : Fin 768, x (ix3 b s i) * wq (ix2 i ⟨h.val * 64 + d.val, by omega⟩) := by
  pointwise [queries]

theorem scores_apply (x : FVec Ideal S8x512x768 .f32) (wq : FVec Ideal S768x2048 .f32) (k : FVec Ideal S8x512x32x64 .f32)
    (b : Fin 8) (h : Fin 32) (s t : Fin 512) : scores (queries x wq) k (ix4 b h s t) = score x wq k b h s t := by
  pointwise [scores]
  simp only [queries_apply]
  rfl

theorem negInf : Ideal.ofBits .f32 0xFF800000#32 = ⊥ := by simp [Ideal.ofBits, Ideal.ieee]

theorem masked_apply (x : FVec Ideal S8x512x768 .f32) (wq : FVec Ideal S768x2048 .f32) (k : FVec Ideal S8x512x32x64 .f32)
    (b : Fin 8) (h : Fin 32) (s t : Fin 512) : masked (scores (queries x wq) k) (ix4 b h s t) = kept x wq k b h s t := by
  pointwise [masked]
  rw [mask_apply, scores_apply, negInf]
  unfold kept
  by_cases hc : s.val / 64 % 4 = t.val / 64 % 4 <;> simp [hc, Scalar.select]

theorem exps_apply (q : FVec Ideal S8x32x512x512 .f32) (b : Fin 8) (h : Fin 32) (s t : Fin 512) :
    exps q (ix4 b h s t)
      = Ideal.exp (q (ix4 b h s t) - Finset.univ.fold max ⊥ fun u : Fin 512 => q (ix4 b h s u)) := by
  pointwise [exps]
  rw [negInf]

theorem weights_apply (e : FVec Ideal S8x32x512x512 .f32) (b : Fin 8) (h : Fin 32) (s t : Fin 512) :
    weights e (ix4 b h s t) = Ideal.div (e (ix4 b h s t)) (∑ u : Fin 512, e (ix4 b h s u)) := by
  pointwise [weights]
  have sel : ∀ y z : EReal, Scalar.select 1#1 y z = y := fun _ _ => rfl
  simp only [rowKeep_apply, sel]

/-- The reference's result at batch `b`, row `s`, column `n`: the masked averages of the values, projected. -/
theorem result_apply (x : FVec Ideal S8x512x768 .f32) (wq : FVec Ideal S768x2048 .f32)
    (k v : FVec Ideal S8x512x32x64 .f32) (wo : FVec Ideal S2048x768 .f32) (b : Fin 8) (s : Fin 512) (n : Fin 768) :
    result x wq k v wo (ix3 b s n)
      = ∑ l : Fin 2048, average (kept x wq k b ⟨l.val / 64, by omega⟩ s)
          (fun t => v (ix4 b t ⟨l.val / 64, by omega⟩ ⟨l.val % 64, by omega⟩)) * wo (ix2 l n) := by
  pointwise [result, project, context]
  simp only [weights_apply, exps_apply, masked_apply]
  rfl

end Cert.ReferenceIdeal.Hand
-- ==== Proof.Meet.lean ====
/-
  Where the kernel's result and the reference's meet: the block that a device leaves is its block of the reference's.
-/
module

public import proofs.«01_k».proof.Proof.KerValue
public import proofs.«01_k».proof.Proof.RefValue
public import proofs.«01_k».proof.Proof.Gen.Pre_finite_KernelIdeal
public import proofs.«01_k».proof.Defs

@[expose] public section

set_option maxRecDepth 16384

noncomputable section

namespace Cert.KernelIdeal.Hand

open Cert.KernelIdeal Cert.KernelIdeal.Gen Idealize.ShloMosaic Idealize.ShloMosaic.TcCoe Idealize.SL.Sem
open Cert.Average

/-- The call's result at a row and column: four head groups' shares, added in the order in which their blocks arrive. -/
theorem out4_apply (x : Vec Ideal S1024x768 .f32) (kg vg : Vec Ideal S4x1024x512 .f32) (Wq : Dev nD → Vec Ideal S768x512 .f32)
    (Wo : Dev nD → Vec Ideal S512x768 .f32) (c : Dev nD) (r : Fin 1024) (n : Fin 768) :
    out4 x kg vg Wq Wo c (ix2 r n)
      = (∑ l : Fin 512, (ctx1 x kg vg Wq c (ix2 r l) : EReal) * Wo c (ix2 l n))
        + (∑ l : Fin 512, (ctx2 x kg vg Wq c (ix2 r l) : EReal) * Wo (prv c) (ix2 l n))
        + (∑ l : Fin 512, (ctx3 x kg vg Wq c (ix2 r l) : EReal) * Wo (opp c) (ix2 l n))
        + (∑ l : Fin 512, (ctx4 x kg vg Wq c (ix2 r l) : EReal) * Wo (nxt c) (ix2 l n)) := by
  unfold out4
  rw [pay73_apply]
  unfold out3
  rw [pay70_apply]
  unfold out2
  rw [pay67_apply]
  unfold out1
  rw [pay63_apply]

/-- The order in which a device adds the four shares does not matter. -/
theorem sum_ring (f : Dev nD → EReal) (c : Dev nD) : f c + f (prv c) + f (opp c) + f (nxt c) = ∑ j : Fin 4, f j := by
  rw [Fin.sum_univ_four]
  obtain ⟨i, hi⟩ := c
  have hp : prv ⟨i, hi⟩ = ⟨(i + 3) % 4, Nat.mod_lt _ (by decide)⟩ := rfl
  have ho : opp ⟨i, hi⟩ = ⟨(i + 2) % 4, Nat.mod_lt _ (by decide)⟩ := rfl
  have hn : nxt ⟨i, hi⟩ = ⟨(i + 1) % 4, Nat.mod_lt _ (by decide)⟩ := rfl
  rw [hp, ho, hn]
  have hi' : i < 4 := hi
  interval_cases i
  · change f (0 : Fin 4) + f (3 : Fin 4) + f (2 : Fin 4) + f (1 : Fin 4) = _; abel
  · change f (1 : Fin 4) + f (0 : Fin 4) + f (3 : Fin 4) + f (2 : Fin 4) = _; abel
  · change f (2 : Fin 4) + f (1 : Fin 4) + f (0 : Fin 4) + f (3 : Fin 4) = _; abel
  · change f (3 : Fin 4) + f (2 : Fin 4) + f (1 : Fin 4) + f (0 : Fin 4) = _; abel

/-- A sum over the 2048 lanes of all heads, head group by head group. -/
theorem sum_groups (T : Fin 2048 → EReal) :
    ∑ l : Fin 2048, T l = ∑ j : Fin 4, ∑ l : Fin 512, T ⟨j.val * 512 + l.val, by omega⟩ := by
  refine (Equiv.sum_comp (finProdFinEquiv (m := 4) (n := 512)) T).symm.trans ((Fintype.sum_prod_type _).trans ?_)
  refine Finset.sum_congr rfl fun j _ => Finset.sum_congr rfl fun l _ => congrArg T (Fin.ext ?_)
  simp only [finProdFinEquiv_apply_val]
  omega

variable (m : (ℓ : Loc nD τ sig) → Buf (Elt Ideal) ℓ)
  (X : Vec Ideal ⟨3, ![8, 512, 768]⟩ .f32) (W : Vec Ideal ⟨2, ![768, 2048]⟩ .f32) (K V : Vec Ideal S8x512x32x64 .f32)
  (O : Vec Ideal ⟨2, ![2048, 768]⟩ .f32)

/-- Device `c`'s block of an array cut along its batches. -/
theorem block_batch (c : Dev nD) (b : Fin 2) (s : Fin 512) (i : Fin 768) :
    Layout.block ⟨3, ![2, 512, 768]⟩ ⟨3, ![8, 512, 768]⟩ 0 4 c X (by decide) (ix3 b s i) = X (ix3 (batchOf c b) s i) := by
  refine congrArg X (funext fun a => ?_)
  match a with
  | ⟨0, _⟩ => rfl
  | ⟨1, _⟩ => rfl
  | ⟨2, _⟩ => rfl

/-- Device `j`'s block of an array cut along its columns. -/
theorem block_cols (j : Dev nD) (i : Fin 768) (l : Fin 512) :
    Layout.block ⟨2, ![768, 512]⟩ ⟨2, ![768, 2048]⟩ 1 4 j W (by decide) (ix2 i l)
      = W (ix2 i ⟨j.val * 512 + l.val, by have : j.val < 4 := j.isLt; omega⟩) := by
  refine congrArg W (funext fun a => ?_)
  match a with
  | ⟨0, _⟩ => rfl
  | ⟨1, _⟩ => rfl

/-- Device `j`'s block of an array cut along its rows. -/
theorem block_rows (j : Dev nD) (l : Fin 512) (n : Fin 768) :
    Layout.block ⟨2, ![512, 768]⟩ ⟨2, ![2048, 768]⟩ 0 4 j O (by decide) (ix2 l n)
      = O (ix2 ⟨j.val * 512 + l.val, by have : j.val < 4 := j.isLt; omega⟩ n) := by
  refine congrArg O (funext fun a => ?_)
  match a with
  | ⟨0, _⟩ => rfl
  | ⟨1, _⟩ => rfl

/-- What head group `j` adds to row `s` of batch `b` in column `n`. -/
def share (B : Fin 8) (s : Fin 512) (n : Fin 768) (j : Dev nD) : EReal :=
  ∑ l : Fin 512, average (kept X W K B ⟨(j.val * 512 + l.val) / 64, by have : j.val < 4 := j.isLt; omega⟩ s)
    (fun t => V (ix4 B t ⟨(j.val * 512 + l.val) / 64, by have : j.val < 4 := j.isLt; omega⟩
      ⟨(j.val * 512 + l.val) % 64, by omega⟩)) * O (ix2 ⟨j.val * 512 + l.val, by have : j.val < 4 := j.isLt; omega⟩ n)

/-- One head group's context times its block of the projection is that group's share. -/
theorem share_of (hreal : ∀ B h s t, ∃ y : ℝ, score X W K B h s t = (y : EReal)) (c j : Dev nD)
    (x : Vec Ideal S2x512x768 .f32) (w : Vec Ideal S768x512 .f32) (o : Vec Ideal S512x768 .f32) (q : Vec Ideal S1024x512 .f32)
    (hx : ∀ b s i, x (ix3 b s i) = X (ix3 (batchOf c b) s i))
    (hw : ∀ (i : Fin 768) (l : Fin 512), w (ix2 i l) = W (ix2 i ⟨j.val * 512 + l.val, by have : j.val < 4 := j.isLt; omega⟩))
    (ho : ∀ (l : Fin 512) (n : Fin 768), o (ix2 l n) = O (ix2 ⟨j.val * 512 + l.val, by have : j.val < 4 := j.isLt; omega⟩ n))
    (hq : ∀ (r : Fin 1024) (l : Fin 512), q (ix2 r l) = ∑ i : Fin 768, (regroup x (ix2 r i) : EReal) * w (ix2 i l))
    (b : Fin 2) (s : Fin 512) (n : Fin 768) :
    (∑ l : Fin 512, (attend q (regroupHeads (batches c K)) (regroupHeads (batches c V)) j (ix2 (rowAt b s) l) : EReal)
      * o (ix2 l n)) = share X W K V O (batchOf c b) s n j := by
  have hj : j.val < 4 := j.isLt
  refine Finset.sum_congr rfl fun l _ => congrArg₂ (· * ·) ?_ (ho l n)
  rw [context_apply c X W K V x w q j hx hw hq b s l]
  have h1 : (⟨(j.val * 512 + l.val) / 64, by omega⟩ : Fin 32) = ⟨j.val * 8 + l.val / 64, by omega⟩ :=
    Fin.ext (by dsimp only; omega)
  have h2 : (⟨(j.val * 512 + l.val) % 64, by omega⟩ : Fin 64) = ⟨l.val % 64, by omega⟩ := Fin.ext (by dsimp only; omega)
  rw [h1, h2, average_kept X W K (batchOf c b) _ s ⟨s.val / 64 % 4, by omega⟩ rfl (hreal _ _ _)]

/-- What a device's program leaves at batch `b`, row `s`, column `n` is what the reference has at the device's batch. -/
theorem final_apply (hreal : ∀ B h s t, ∃ y : ℝ, score X W K B h s t = (y : EReal))
    (h0 : ∀ c : Dev nD, m ((c.tc : Thread nD τ).loc main_arg0) = Layout.block ⟨3, ![2, 512, 768]⟩ ⟨3, ![8, 512, 768]⟩ 0 4 c X (by decide))
    (h1 : ∀ c : Dev nD, m ((c.tc : Thread nD τ).loc main_arg1) = Layout.block ⟨2, ![768, 512]⟩ ⟨2, ![768, 2048]⟩ 1 4 c W (by decide))
    (h2 : ∀ c : Dev nD, m ((c.tc : Thread nD τ).loc main_arg2) = K) (h3 : ∀ c : Dev nD, m ((c.tc : Thread nD τ).loc main_arg3) = V)
    (h4 : ∀ c : Dev nD, m ((c.tc : Thread nD τ).loc main_arg4) = Layout.block ⟨2, ![512, 768]⟩ ⟨2, ![2048, 768]⟩ 0 4 c O (by decide))
    (c : Dev nD) (b : Fin 2) (s : Fin 512) (n : Fin 768) :
    V3 m (outs m) c main_v27 (ix3 b s n) = Cert.ReferenceIdeal.Hand.result X W K V O (ix3 (batchOf c b) s n) := by
  have hx : ∀ b s i, m ((c.tc : Thread nD τ).loc main_arg0) (ix3 b s i) = X (ix3 (batchOf c b) s i) := fun b s i =>
    (congrFun (h0 c) _).trans (block_batch X c b s i)
  have hw : ∀ (j : Dev nD) (i : Fin 768) (l : Fin 512), wqOf m j (ix2 i l)
      = W (ix2 i ⟨j.val * 512 + l.val, by have : j.val < 4 := j.isLt; omega⟩) := fun j i l =>
    (congrFun ((wqOf_eq m j).trans (h1 j)) _).trans (block_cols W j i l)
  have ho : ∀ (j : Dev nD) (l : Fin 512) (n : Fin 768), woOf m j (ix2 l n)
      = O (ix2 ⟨j.val * 512 + l.val, by have : j.val < 4 := j.isLt; omega⟩ n) := fun j l n =>
    (congrFun ((woOf_eq m j).trans (h4 j)) _).trans (block_rows O j l n)
  have hs := fun (j : Dev nD) q hq => share_of X W K V O hreal c j _ (wqOf m j) (woOf m j) q hx (hw j) (ho j) hq b s n
  rw [final_eq, ungroup_apply, Cert.ReferenceIdeal.Hand.result_apply, sum_groups]
  refine Eq.trans ?_ (sum_ring (share X W K V O (batchOf c b) s n) c)
  unfold outOf
  rw [out4_apply, xOf_eq, kOf_eq, vOf_eq, h2, h3]
  refine congrArg₂ (· + ·) (congrArg₂ (· + ·) (congrArg₂ (· + ·) ?_ ?_) ?_) ?_
  · exact hs c _ fun r l => pay61_apply _ _ r l
  · exact hs (prv c) _ fun r l => pay65_apply _ _ r l
  · exact hs (opp c) _ fun r l => pay68_apply _ _ r l
  · exact hs (nxt c) _ fun r l => pay71_apply _ _ r l

/-- An entry whose magnitude lies below infinity is a real number. -/
theorem real_of_lt (a : EReal) (h : Ideal.cmp .olt (max a (-a)) (Ideal.ofBits .f32 0x7F800000#32) = 1#1) : ∃ y : ℝ, a = (y : EReal) := by
  have ht : Ideal.ofBits .f32 0x7F800000#32 = ⊤ := by simp [Ideal.ofBits, Ideal.ieee]
  rw [ht] at h
  have hlt : max a (-a) < ⊤ := by
    by_contra hn
    simp [Ideal.cmp, hn] at h
  rw [max_lt_iff] at hlt
  refine ⟨a.toReal, (EReal.coe_toReal hlt.1.ne fun hb => ?_).symm⟩
  rw [hb] at hlt
  exact absurd hlt.2 (by simp)

/-- Under the precondition every entry of a device's activations, query block and keys is a real number. -/
theorem reals_of_pre (x : Vec Ideal S2x512x768 .f32) (w : Vec Ideal S768x512 .f32) (k v : Vec Ideal S8x512x32x64 .f32) (o : Vec Ideal S512x768 .f32)
    (h : (Cert.Pre_finite_KernelIdeal.fn (F := Ideal) x w k v o).1 = (fun _ => 1#1)
      ∧ (Cert.Pre_finite_KernelIdeal.fn (F := Ideal) x w k v o).2.1 = (fun _ => 1#1)
      ∧ (Cert.Pre_finite_KernelIdeal.fn (F := Ideal) x w k v o).2.2 = (fun _ => 1#1)) :
    (∀ i, ∃ y : ℝ, x i = (y : EReal)) ∧ (∀ i, ∃ y : ℝ, w i = (y : EReal)) ∧ (∀ i, ∃ y : ℝ, k i = (y : EReal)) :=
  ⟨fun i => real_of_lt _ (congrFun h.1 i), fun i => real_of_lt _ (congrFun h.2.1 i), fun i => real_of_lt _ (congrFun h.2.2 i)⟩

/-- Under the precondition every score of the whole attention is a real number: each batch and each column lies on some device. -/
theorem real_of_pre (hpre : Cert.Pre_KernelIdeal_finite_KernelIdeal m)
    (h0 : ∀ c : Dev nD, m ((c.tc : Thread nD τ).loc main_arg0) = Layout.block ⟨3, ![2, 512, 768]⟩ ⟨3, ![8, 512, 768]⟩ 0 4 c X (by decide))
    (h1 : ∀ c : Dev nD, m ((c.tc : Thread nD τ).loc main_arg1) = Layout.block ⟨2, ![768, 512]⟩ ⟨2, ![768, 2048]⟩ 1 4 c W (by decide))
    (h2 : ∀ c : Dev nD, m ((c.tc : Thread nD τ).loc main_arg2) = K) (B : Fin 8) (h : Fin 32) (s t : Fin 512) :
    ∃ y : ℝ, score X W K B h s t = (y : EReal) := by
  have hr := fun c : Dev nD => reals_of_pre _ _ _ _ _ (hpre c)
  refine real_score X W K (fun i => ?_) (fun i => ?_) (fun i => ?_) B h s t
  · obtain ⟨y, hy⟩ := (hr ⟨(i 0).val / 2, by have : (i 0).val < 8 := (i 0).isLt; show _ < 4; omega⟩).1
      (ix3 (⟨(i 0).val % 2, by omega⟩ : Fin 2) (i 1) (i 2))
    refine ⟨y, Eq.trans (congrArg X (funext fun a => ?_)) ((((congrFun (h0 _) _).trans (block_batch X _ _ _ _)).symm).trans hy)⟩
    match a with
    | ⟨0, _⟩ => exact Fin.ext (by simp only [batchOf]; show (i 0).val = _; exact (Nat.div_add_mod' _ _).symm)
    | ⟨1, _⟩ => rfl
    | ⟨2, _⟩ => rfl
  · obtain ⟨y, hy⟩ := (hr ⟨(i 1).val / 512, by have : (i 1).val < 2048 := (i 1).isLt; show _ < 4; omega⟩).2.1
      (ix2 (i 0) (⟨(i 1).val % 512, by omega⟩ : Fin 512))
    refine ⟨y, Eq.trans (congrArg W (funext fun a => ?_)) ((((congrFun (h1 _) _).trans (block_cols W _ _ _)).symm).trans hy)⟩
    match a with
    | ⟨0, _⟩ => rfl
    | ⟨1, _⟩ => exact Fin.ext (Nat.div_add_mod' _ _).symm
  · obtain ⟨y, hy⟩ := (hr 0).2.2 i
    exact ⟨y, (congrFun (h2 0) i).symm.trans hy⟩

/-- The array that a device's program leaves is the device's block of the reference's result. -/
theorem final_block (hpre : Cert.Pre_KernelIdeal_finite_KernelIdeal m)
    (h0 : ∀ c : Dev nD, m ((c.tc : Thread nD τ).loc main_arg0) = Layout.block ⟨3, ![2, 512, 768]⟩ ⟨3, ![8, 512, 768]⟩ 0 4 c X (by decide))
    (h1 : ∀ c : Dev nD, m ((c.tc : Thread nD τ).loc main_arg1) = Layout.block ⟨2, ![768, 512]⟩ ⟨2, ![768, 2048]⟩ 1 4 c W (by decide))
    (h2 : ∀ c : Dev nD, m ((c.tc : Thread nD τ).loc main_arg2) = K) (h3 : ∀ c : Dev nD, m ((c.tc : Thread nD τ).loc main_arg3) = V)
    (h4 : ∀ c : Dev nD, m ((c.tc : Thread nD τ).loc main_arg4) = Layout.block ⟨2, ![512, 768]⟩ ⟨2, ![2048, 768]⟩ 0 4 c O (by decide))
    (c : Dev nD) :
    V3 m (outs m) c main_v27
      = Layout.block ⟨3, ![2, 512, 768]⟩ ⟨3, ![8, 512, 768]⟩ 0 4 c (Cert.ReferenceIdeal.Hand.result X W K V O) (by decide) := by
  funext i
  have hi : i = ix3 (i 0) (i 1) (i 2) := by
    funext a
    match a with
    | ⟨0, _⟩ => rfl
    | ⟨1, _⟩ => rfl
    | ⟨2, _⟩ => rfl
  rw [hi]
  exact (final_apply m X W K V O (real_of_pre m X W K hpre h0 h1 h2) h0 h1 h2 h3 h4 c (i 0) (i 1) (i 2)).trans
    (block_batch _ c _ _ _).symm

end Cert.KernelIdeal.Hand
-- ==== Proof.Frames.lean ====
/-
  The claims: the frames of the three programs, each read off the program's run, and the equation of kernel and reference.
-/
module

public import proofs.«01_k».proof.Defs
public import proofs.«01_k».proof.Proof.Run
public import proofs.«01_k».proof.Proof.Meet
public import proofs.«01_k».proof.Proof.Gen.Pre_finite_KernelIdeal
public import proofs.«01_k».proof.Proof.Gen.Pre_finite_ReferenceIdeal
public import proofs.«01_k».proof.Proof.Gen.Kernel
public import proofs.«01_k».proof.Proof.Gen.ReferenceIdeal.Run

@[expose] public section

set_option maxRecDepth 65536

noncomputable section

namespace Cert.Proof

open Idealize.ShloMosaic Idealize.ShloMosaic.TcCoe Idealize.SL.Sem

/-- The two printed texts are one text: their kernels' body tables agree. -/
theorem bodies_eq {F : FTy → Type} [FloatOps F] : Cert.Kernel.defs₀ (F := F) = Cert.KernelIdeal.defs₀ (F := F) := by
  refine congrArg (Defs.onTc (nD := Cert.Kernel.nD) (τ := Cert.Kernel.τ) (sig := Cert.Kernel.sig) (Val := Elt F) (Λ := Cert.Kernel.Λ₀)) (funext fun l => ?_)
  match l with
  | 0 => rfl
theorem tables_eq {F : FTy → Type} [FloatOps F] : Cert.Kernel.defs (F := F) = Cert.KernelIdeal.defs (F := F) :=
  congrArg (Pipeline.defs (Cert.Kernel.pcfgs (F := F))) bodies_eq
theorem mains_eq {F : FTy → Type} [FloatOps F] : Cert.Kernel.main (F := F) = Cert.KernelIdeal.main (F := F) := rfl

/-- The kernel on bit patterns, by the run of the text that the two programs share. -/
theorem frame_kernel : Cert.quiescent_Kernel := fun m ρ _ => by
  rw [tables_eq, mains_eq]
  exact (θ_run Cert.KernelIdeal.defs _ _).mono (fun _ h => ⟨fun c => (h.1 c).2, h.2⟩) (Cert.KernelIdeal.Hand.run_main (F := Bits) m ρ)

/-- The kernel over the extended reals. -/
theorem frame_kernelIdeal : Cert.quiescent_KernelIdeal := fun m ρ _ =>
  (θ_run Cert.KernelIdeal.defs _ _).mono (fun _ h => ⟨fun c => (h.1 c).2, h.2⟩) (Cert.KernelIdeal.Hand.run_main (F := Ideal) m ρ)

/-- The same under the precondition, which the frame does not need. -/
theorem frame_kernelIdeal_pre : Cert.quiescent_KernelIdeal_pre_finite_KernelIdeal := fun m ρ _ => frame_kernelIdeal m ρ trivial

/-- The reference declares no semaphore at all. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition, which the frame does not need. -/
theorem frame_reference_pre : Cert.quiescent_ReferenceIdeal_pre_finite_ReferenceIdeal := fun m ρ _ => frame_reference m ρ trivial

/-- Kernel and reference compute one function: each device ends with its block of the reference's result. -/
theorem agree : Cert.algebraic_KernelIdeal_ReferenceIdeal_pre_finite_KernelIdeal := fun m g m' g' hpre hargs =>
  ⟨Cert.ReferenceIdeal.Value.res_main_v39 m' 0,
    (θ_run Cert.KernelIdeal.defs _ _).mono (fun _ h c => ⟨(h.1 c).1.trans (by
      rw [Cert.ReferenceIdeal.Hand.res_eq]
      exact Cert.KernelIdeal.Hand.final_block m _ _ _ _ _ hpre (fun c => (hargs c).1) (fun c => (hargs c).2.1)
        (fun c => (hargs c).2.2.1) (fun c => (hargs c).2.2.2.1) (fun c => (hargs c).2.2.2.2) c), (h.1 c).2⟩)
      (Cert.KernelIdeal.Hand.run_main (F := Ideal) m g),
    (θ_run Cert.ReferenceIdeal.defs _ _).mono (fun _ h => h 0) (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_kernelIdeal, frame_kernelIdeal_pre, frame_reference, frame_reference_pre, trivial, agree⟩

end Cert.Proof

end
